-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![1024, 1024]⟩ ⟨2, ![2048, 1024]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024 : Shape := ⟨1, ![1024]⟩
abbrev S1x1024 : Shape := ⟨2, ![1, 1024]⟩
abbrev S1024x1024 : Shape := ⟨2, ![1024, 1024]⟩
abbrev S512x1024 : Shape := ⟨2, ![512, 1024]⟩
abbrev S10 : Shape := ⟨1, ![10]⟩
abbrev S8 : Shape := ⟨1, ![8]⟩
abbrev S1 : Shape := ⟨1, ![1]⟩
abbrev S_ : Shape := ⟨0, ![]⟩
abbrev S64x1024 : Shape := ⟨2, ![64, 1024]⟩
abbrev S1x64x1024 : Shape := ⟨3, ![1, 64, 1024]⟩
abbrev S1x1024x1024 : Shape := ⟨3, ![1, 1024, 1024]⟩
abbrev S64 : Shape := ⟨1, ![64]⟩
abbrev S64x1 : Shape := ⟨2, ![64, 1]⟩

abbrev nBuf : Space → Nat
  | .hbm => 4
  | .vmem => 7
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x1024, .f32⟩
  | .hbm, ⟨3, _⟩ => ⟨S1024x1024, .bf16⟩
  | .local _ .vmem, ⟨0, _⟩ => ⟨S1024x1024, .bf16⟩
  | .local _ .vmem, ⟨1, _⟩ => ⟨S1024x1024, .f32⟩
  | .local _ .vmem, ⟨2, _⟩ => ⟨S512x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 3 → Nat :=
  let c0_i32_5 : BitVec 32 := 0#32
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_4 v2
  let c1024_i32 : BitVec 32 := 1024#32
  let v9 : BitVec 32 := Scalar.muli v8 c1024_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v10 : BitVec 32 := Scalar.muli v5 c512_i32
  let v11 : BitVec 32 := Scalar.addi v9 v10
  let v12 : BitVec 32 := Scalar.addi v11 c0_i32
  let c0_i32_9 : BitVec 32 := 0#32
  ![0, v12.toNat, 0]
def k0_off2 (d0 : Dev nD) : Fin 3 → Nat :=
  let c0_i32_41 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_40 : BitVec 32 := 1024#32
  let v60 : BitVec 32 := Scalar.muli v2 c1024_i32_40
  let c0_i32_42 : BitVec 32 := 0#32
  ![0, v60.toNat, 0]
def k0_dev1 (d0 : Dev nD) : Nat :=
  let c0_i32_45 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_44 : BitVec 32 := 2#32
  let v68 : BitVec 32 := Scalar.muli v6 c2_i32_44
  let v69 : BitVec 32 := Scalar.addi c0_i32_45 v68
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_46 : BitVec 32 := 1#32
  let v70 : BitVec 32 := Scalar.muli v5 c1_i32_46
  let v71 : BitVec 32 := Scalar.addi v69 v70
  v71.toNat
def k0_dev2 (d0 : Dev nD) : Nat :=
  let c0_i32_49 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_48 : BitVec 32 := 2#32
  let v72 : BitVec 32 := Scalar.muli v2 c2_i32_48
  let v73 : BitVec 32 := Scalar.addi c0_i32_49 v72
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_50 : BitVec 32 := 1#32
  let v74 : BitVec 32 := Scalar.muli v7 c1_i32_50
  let v75 : BitVec 32 := Scalar.addi v73 v74
  v75.toNat
def k0_dev3 (d0 : Dev nD) : Nat :=
  let c0_i32_63 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_62 : BitVec 32 := 2#32
  let v86 : BitVec 32 := Scalar.muli v6 c2_i32_62
  let v87 : BitVec 32 := Scalar.addi c0_i32_63 v86
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_64 : BitVec 32 := 1#32
  let v88 : BitVec 32 := Scalar.muli v5 c1_i32_64
  let v89 : BitVec 32 := Scalar.addi v87 v88
  v89.toNat
def k0_dev4 (d0 : Dev nD) : Nat :=
  let c0_i32_80 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_79 : BitVec 32 := 2#32
  let v106 : BitVec 32 := Scalar.muli v6 c2_i32_79
  let v107 : BitVec 32 := Scalar.addi c0_i32_80 v106
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_81 : BitVec 32 := 1#32
  let v108 : BitVec 32 := Scalar.muli v5 c1_i32_81
  let v109 : BitVec 32 := Scalar.addi v107 v108
  v109.toNat
def k0_dev5 (d0 : Dev nD) : Nat :=
  let c0_i32_97 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_96 : BitVec 32 := 2#32
  let v126 : BitVec 32 := Scalar.muli v6 c2_i32_96
  let v127 : BitVec 32 := Scalar.addi c0_i32_97 v126
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_98 : BitVec 32 := 1#32
  let v128 : BitVec 32 := Scalar.muli v5 c1_i32_98
  let v129 : BitVec 32 := Scalar.addi v127 v128
  v129.toNat
def k0_dev6 (d0 : Dev nD) : Nat :=
  let c0_i32_114 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_113 : BitVec 32 := 2#32
  let v146 : BitVec 32 := Scalar.muli v6 c2_i32_113
  let v147 : BitVec 32 := Scalar.addi c0_i32_114 v146
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_115 : BitVec 32 := 1#32
  let v148 : BitVec 32 := Scalar.muli v5 c1_i32_115
  let v149 : BitVec 32 := Scalar.addi v147 v148
  v149.toNat
def k0_dev7 (d0 : Dev nD) : Nat :=
  let c0_i32_131 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_130 : BitVec 32 := 2#32
  let v166 : BitVec 32 := Scalar.muli v6 c2_i32_130
  let v167 : BitVec 32 := Scalar.addi c0_i32_131 v166
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_132 : BitVec 32 := 1#32
  let v168 : BitVec 32 := Scalar.muli v5 c1_i32_132
  let v169 : BitVec 32 := Scalar.addi v167 v168
  v169.toNat
def k0_dev8 (d0 : Dev nD) : Nat :=
  let c0_i32_148 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_147 : BitVec 32 := 2#32
  let v186 : BitVec 32 := Scalar.muli v6 c2_i32_147
  let v187 : BitVec 32 := Scalar.addi c0_i32_148 v186
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_149 : BitVec 32 := 1#32
  let v188 : BitVec 32 := Scalar.muli v5 c1_i32_149
  let v189 : BitVec 32 := Scalar.addi v187 v188
  v189.toNat
def k0_dev9 (d0 : Dev nD) : Nat :=
  let c0_i32_165 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_164 : BitVec 32 := 2#32
  let v206 : BitVec 32 := Scalar.muli v6 c2_i32_164
  let v207 : BitVec 32 := Scalar.addi c0_i32_165 v206
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_166 : BitVec 32 := 1#32
  let v208 : BitVec 32 := Scalar.muli v5 c1_i32_166
  let v209 : BitVec 32 := Scalar.addi v207 v208
  v209.toNat
def k0_dev10 (d0 : Dev nD) : Nat :=
  let c0_i32_182 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_181 : BitVec 32 := 2#32
  let v226 : BitVec 32 := Scalar.muli v6 c2_i32_181
  let v227 : BitVec 32 := Scalar.addi c0_i32_182 v226
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_183 : BitVec 32 := 1#32
  let v228 : BitVec 32 := Scalar.muli v5 c1_i32_183
  let v229 : BitVec 32 := Scalar.addi v227 v228
  v229.toNat
def k0_dev11 (d0 : Dev nD) : Nat :=
  let c0_i32_206 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_205 : BitVec 32 := 2#32
  let v251 : BitVec 32 := Scalar.muli v2 c2_i32_205
  let v252 : BitVec 32 := Scalar.addi c0_i32_206 v251
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_207 : BitVec 32 := 1#32
  let v253 : BitVec 32 := Scalar.muli v7 c1_i32_207
  let v254 : BitVec 32 := Scalar.addi v252 v253
  v254.toNat
def k0_off3 (d0 : Dev nD) (c0_i32_213 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_212 : BitVec 32 := 512#32
  let v261 : BitVec 32 := Scalar.muli v5 c512_i32_212
  let v262 : BitVec 32 := Scalar.addi v261 c0_i32_213
  let v264 : Index := Scalar.indexCast v262
  let c0_216 : Index := 0#32
  ![v264.toNat, 0]
def k0_dev12 (d0 : Dev nD) : Nat :=
  let c0_i32_232 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_231 : BitVec 32 := 2#32
  let v291 : BitVec 32 := Scalar.muli v2 c2_i32_231
  let v292 : BitVec 32 := Scalar.addi c0_i32_232 v291
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_233 : BitVec 32 := 1#32
  let v293 : BitVec 32 := Scalar.muli v7 c1_i32_233
  let v294 : BitVec 32 := Scalar.addi v292 v293
  v294.toNat
def k0_dev13 (d0 : Dev nD) : Nat :=
  let c0_i32_259 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_258 : BitVec 32 := 2#32
  let v331 : BitVec 32 := Scalar.muli v2 c2_i32_258
  let v332 : BitVec 32 := Scalar.addi c0_i32_259 v331
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_260 : BitVec 32 := 1#32
  let v333 : BitVec 32 := Scalar.muli v7 c1_i32_260
  let v334 : BitVec 32 := Scalar.addi v332 v333
  v334.toNat
def k0_dev14 (d0 : Dev nD) : Nat :=
  let c0_i32_286 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_285 : BitVec 32 := 2#32
  let v371 : BitVec 32 := Scalar.muli v2 c2_i32_285
  let v372 : BitVec 32 := Scalar.addi c0_i32_286 v371
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_287 : BitVec 32 := 1#32
  let v373 : BitVec 32 := Scalar.muli v7 c1_i32_287
  let v374 : BitVec 32 := Scalar.addi v372 v373
  v374.toNat
def k0_dev15 (d0 : Dev nD) : Nat :=
  let c0_i32_313 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_312 : BitVec 32 := 2#32
  let v411 : BitVec 32 := Scalar.muli v2 c2_i32_312
  let v412 : BitVec 32 := Scalar.addi c0_i32_313 v411
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_314 : BitVec 32 := 1#32
  let v413 : BitVec 32 := Scalar.muli v7 c1_i32_314
  let v414 : BitVec 32 := Scalar.addi v412 v413
  v414.toNat
def k0_dev16 (d0 : Dev nD) : Nat :=
  let c0_i32_340 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_339 : BitVec 32 := 2#32
  let v451 : BitVec 32 := Scalar.muli v2 c2_i32_339
  let v452 : BitVec 32 := Scalar.addi c0_i32_340 v451
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_341 : BitVec 32 := 1#32
  let v453 : BitVec 32 := Scalar.muli v7 c1_i32_341
  let v454 : BitVec 32 := Scalar.addi v452 v453
  v454.toNat
def k0_dev17 (d0 : Dev nD) : Nat :=
  let c0_i32_367 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_366 : BitVec 32 := 2#32
  let v491 : BitVec 32 := Scalar.muli v2 c2_i32_366
  let v492 : BitVec 32 := Scalar.addi c0_i32_367 v491
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_368 : BitVec 32 := 1#32
  let v493 : BitVec 32 := Scalar.muli v7 c1_i32_368
  let v494 : BitVec 32 := Scalar.addi v492 v493
  v494.toNat
def k0_dev18 (d0 : Dev nD) : Nat :=
  let c0_i32_394 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_393 : BitVec 32 := 2#32
  let v531 : BitVec 32 := Scalar.muli v2 c2_i32_393
  let v532 : BitVec 32 := Scalar.addi c0_i32_394 v531
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_395 : BitVec 32 := 1#32
  let v533 : BitVec 32 := Scalar.muli v7 c1_i32_395
  let v534 : BitVec 32 := Scalar.addi v532 v533
  v534.toNat
def k0_off4 (d0 : Dev nD) (c0_i32_420 : BitVec 32) : Fin 2 → Nat :=
  let c1_i32_418 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v571 : BitVec 32 := Scalar.subi c1_i32_418 v5
  let c512_i32_419 : BitVec 32 := 512#32
  let v572 : BitVec 32 := Scalar.muli v571 c512_i32_419
  let v573 : BitVec 32 := Scalar.addi v572 c0_i32_420
  let v575 : Index := Scalar.indexCast v573
  let c0_423 : Index := 0#32
  ![v575.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x1024 : Shape := ⟨3, ![2, 2048, 1024]⟩
abbrev S1024 : Shape := ⟨1, ![1024]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Program.lean ====
/- The kernel body as five loops over the eight chunks. The printed body is the unrolled sequence; here it is
   written once per chunk (`copyIn`, `sendOut`, `forward`, `finish`, `settle`) and folded over the chunks
   (`eachChunk`), and `body_eq` says the printed body is that fold. -/
module

public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.KernelIdeal.Body

open Idealize.ShloMosaic Idealize.ShloMosaic.TcCoe Idealize.SL.Sem
open Cert.KernelIdeal.Gen

variable {F : FTy → Type} [FloatOps F]

/-- Programs of one core that return nothing. -/
abbrev Code (F : FTy → Type) [FloatOps F] : Type 1 := Prog (TpuEff nD τ sig (Elt F) Λ₀ .tc) PUnit

/-- The eight chunks in order. -/
def eachChunk (f : Fin 8 → Code F → Code F) (rest : Code F) : Code F :=
  f 0 (f 1 (f 2 (f 3 (f 4 (f 5 (f 6 (f 7 rest)))))))

/-! ## Rectangles, semaphores, devices -/

theorem inbChunk (k : Fin 8) : ∀ a, (![64 * k.val, 0] : Fin 2 → Nat) a + S64x1024.size a ≤ S512x1024.size a := by
  revert k; decide

theorem inbL (j : Fin 10) : ∀ a, (![j.val] : Fin 1 → Nat) a + S1.size a ≤ S10.size a := by revert j; decide

theorem inbS (k : Fin 8) : ∀ a, (![k.val] : Fin 1 → Nat) a + S1.size a ≤ S8.size a := by revert k; decide

/-- Rows `64 k … 64 k + 63` of a chunked buffer. -/
abbrev rows (k : Fin 8) : Rect S512x1024 := Rect.unit (s := S512x1024) ![64 * k.val, 0] S64x1024.size (inbChunk k)

theorem rows_packed (k : Fin 8) : (rows k).PackedRows (EltTy.packing .bf16) := by revert k; decide

theorem rows_words (k : Fin 8) : (rows k).WholeWords (EltTy.packing .bf16) := by revert k; decide

/-- Chunk `k` of a chunked buffer. -/
abbrev chunk {e : EltTy} (m : Memref sig .tc .vmem S512x1024 e) (k : Fin 8) : Memref sig .tc .vmem S64x1024 e :=
  m.slice (rows k) (fun _ => rfl)

abbrev lsem (j : Fin 10) : DmaSem sig :=
  ((cc0_scratch6.slice (Rect.unit (s := S10) ![j.val] S1.size (inbL j))).squeeze S_ squeezes_S1_S_).sem

abbrev sem8 (m : DmaSems sig S8) (k : Fin 8) : DmaSem sig :=
  ((m.slice (Rect.unit (s := S8) ![k.val] S1.size (inbS k))).squeeze S_ squeezes_S1_S_).sem

abbrev barS : Sem sig := (SemArray.scalar (sig.barrier 0 rfl) : Sems sig S_).sem

/-- The device chunk `k` is sent to, and the one it is forwarded to, as the kernel computes them. -/
abbrev toX (d : Dev nD) : Fin 8 → Dev nD :=
  ![⟨k0_dev3 d, k0_dev3_lt d⟩, ⟨k0_dev4 d, k0_dev4_lt d⟩, ⟨k0_dev5 d, k0_dev5_lt d⟩, ⟨k0_dev6 d, k0_dev6_lt d⟩,
    ⟨k0_dev7 d, k0_dev7_lt d⟩, ⟨k0_dev8 d, k0_dev8_lt d⟩, ⟨k0_dev9 d, k0_dev9_lt d⟩, ⟨k0_dev10 d, k0_dev10_lt d⟩]

abbrev toY (d : Dev nD) : Fin 8 → Dev nD :=
  ![⟨k0_dev11 d, k0_dev11_lt d⟩, ⟨k0_dev12 d, k0_dev12_lt d⟩, ⟨k0_dev13 d, k0_dev13_lt d⟩, ⟨k0_dev14 d, k0_dev14_lt d⟩,
    ⟨k0_dev15 d, k0_dev15_lt d⟩, ⟨k0_dev16 d, k0_dev16_lt d⟩, ⟨k0_dev17 d, k0_dev17_lt d⟩, ⟨k0_dev18 d, k0_dev18_lt d⟩]

/-! ## Buffers and views -/

abbrev pM : Memref sig .tc .hbm S1x2048x1024 .f32 := Memref.whole main_arg0
abbrev gM : Memref sig .tc .hbm S1x1024 .f32 := Memref.whole main_v1
abbrev outM : Memref sig .tc .vmem S1024x1024 .bf16 := Memref.whole cc0_stg0_0
abbrev lrowsM : Memref sig .tc .vmem S1024x1024 .f32 := Memref.whole cc0_scratch0
abbrev psrcM : Memref sig .tc .vmem S512x1024 .f32 := Memref.whole cc0_scratch1
abbrev sendM : Memref sig .tc .vmem S512x1024 .bf16 := Memref.whole cc0_scratch2
abbrev recvxM : Memref sig .tc .vmem S512x1024 .bf16 := Memref.whole cc0_scratch3
abbrev recvyM : Memref sig .tc .vmem S512x1024 .bf16 := Memref.whole cc0_scratch4
abbrev gvM : Memref sig .tc .vmem S1x1024 .f32 := Memref.whole cc0_scratch5

theorem outM_whole : (outM).IsWhole := Memref.isWhole_whole _

/-- The 64 rows of the partial block that chunk `k` sends. -/
abbrev peerRows (d : Dev nD) (k : Fin 8) : Memref sig .tc .hbm S64x1024 .f32 :=
  (pM.slice (Rect.unit (s := S1x2048x1024) (k0_off1 d (BitVec.ofNat 32 (64 * k.val))) S1x64x1024.size (k0_off1_inb d k))
    (fun _ => rfl)).squeeze S64x1024 squeezes_S1x64x1024_S64x1024

/-- The 1024 rows of the partial block the device reduces itself. -/
abbrev ownRows (d : Dev nD) : Memref sig .tc .hbm S1024x1024 .f32 :=
  (pM.slice (Rect.unit (s := S1x2048x1024) (k0_off2 d) S1x1024x1024.size (k0_off2_inb d)) (fun _ => rfl)).squeeze
    S1024x1024 squeezes_S1x1024x1024_S1024x1024

/-- The rows of the result chunk `k` of the received half is written to, and of the forwarded half. -/
abbrev nearRows (d : Dev nD) (k : Fin 8) : Rect S1024x1024 :=
  Rect.unit (s := S1024x1024) (k0_off3 d (BitVec.ofNat 32 (64 * k.val))) S64x1024.size (k0_off3_inb d k)

abbrev farRows (d : Dev nD) (k : Fin 8) : Rect S1024x1024 :=
  Rect.unit (s := S1024x1024) (k0_off4 d (BitVec.ofNat 32 (64 * k.val))) S64x1024.size (k0_off4_inb d k)

abbrev gRect : Rect S1x1024 := Rect.unit (s := S1x1024) ![0, 0] S1x1024.size inb_S1x1024_S1x1024_0_0

/-- What is stored for 64 rows: the sum of the device's rows and the received ones, normalised and scaled. -/
abbrev normed (g : Vec F S1x1024 .f32) (x : Vec F S64x1024 .bf16) (l : Vec F S64x1024 .f32) : FVec F S64x1024 .bf16 :=
  k0_pay11 g x l

/-- What is sent of 64 rows: their rounding to bfloat16. -/
abbrev narrow (x : Vec F S64x1024 .f32) : FVec F S64x1024 .bf16 := k0_pay4 x

/-! ## The steps -/

def copyIn (d : Dev nD) (k : Fin 8) (rest : Code F) : Code F :=
  .op (.enqueueDma (peerRows d k) (.here (chunk psrcM k)) (.dma (lsem (k.castLE (by decide))))
    ((View.wordExact_bits rfl).reshape _ _) (View.wordExact_bits rfl) ⟨Or.inl rfl, trivial⟩) fun _ => rest

def copyOwn (d : Dev nD) (rest : Code F) : Code F :=
  .op (.enqueueDma (ownRows d) (.here lrowsM) (.dma (lsem 8))
    ((View.wordExact_bits rfl).reshape _ _) (Memref.isWhole_whole _).wordExact ⟨Or.inl rfl, trivial⟩) fun _ =>
  .op (.enqueueDma gM (.here gvM) (.dma (lsem 9))
    (Memref.isWhole_whole _).wordExact (Memref.isWhole_whole _).wordExact ⟨Or.inl rfl, trivial⟩) fun _ => rest

def meet (d : Dev nD) (rest : Code F) : Code F :=
  .op (.semSignal ((⟨k0_dev1 d, k0_dev1_lt d⟩ : Dev nD), .tc) barS (1#32).toInt) fun _ =>
  .op (.semSignal ((⟨k0_dev2 d, k0_dev2_lt d⟩ : Dev nD), .tc) barS (1#32).toInt) fun _ =>
  .op (.semWait barS (2#32).toInt) fun _ => rest

/-- Chunk `k` goes from the send buffer to device `e`. -/
def toNeighbour (e : Dev nD) (k : Fin 8) (rest : Code F) : Code F :=
  .op (.enqueueDma (chunk sendM k) (.remote (Dev.tc e) (chunk recvxM k) (.dma (sem8 cc0_scratch7 k)))
    (.dma (sem8 cc0_scratch8 k)) ((Memref.isWhole_whole _).wordExact_slice rfl _ (rows_words k))
    ((Memref.isWhole_whole _).wordExact_slice rfl _ (rows_words k)) ⟨⟨rfl, Or.inl rfl⟩, trivial⟩) fun _ => rest

def sendOut (d : Dev nD) (k : Fin 8) (rest : Code F) : Code F :=
  .op (.waitDma2 (lsem (k.castLE (by decide))) (peerRows d k) (chunk psrcM k)
    ((View.wordExact_bits rfl).reshape _ _) (View.wordExact_bits rfl)) fun _ =>
  .op (.load psrcM (rows k).toLoadRect (View.loadsAt_vmem h_S64x1024)) fun x =>
  .op (.load sendM (rows k).toLoadRect (View.loadsAt_vmem h_S64x1024)) fun _ =>
  .op (.store sendM (rows k) (narrow x) Finset.univ (View.stores_vmem h_S64x1024
    ((Memref.isWhole_whole _).storeExact_slice rfl _ (rows_packed k)) (fun _ => rfl)) (.inl rfl)) fun _ =>
  toNeighbour (toX d k) k rest

def awaitOwn (d : Dev nD) (rest : Vec F S1x1024 .f32 → Code F) : Code F :=
  .op (.waitDma2 (lsem 8) (ownRows d) lrowsM ((View.wordExact_bits rfl).reshape _ _) (Memref.isWhole_whole _).wordExact) fun _ =>
  .op (.waitDma2 (lsem 9) gM gvM (Memref.isWhole_whole _).wordExact (Memref.isWhole_whole _).wordExact) fun _ =>
  .op (.load gvM gRect.toLoadRect (View.loadsAt_vmem h_S1x1024)) rest

/-- The arrived chunk `k` goes on to device `e`. -/
def passOn (e : Dev nD) (k : Fin 8) (rest : Code F) : Code F :=
  .op (.enqueueDma (chunk recvxM k) (.remote (Dev.tc e) (chunk recvyM k) (.dma (sem8 cc0_scratch9 k)))
    (.dma (sem8 cc0_scratch10 k)) ((Memref.isWhole_whole _).wordExact_slice rfl _ (rows_words k))
    ((Memref.isWhole_whole _).wordExact_slice rfl _ (rows_words k)) ⟨⟨rfl, Or.inl rfl⟩, trivial⟩) fun _ => rest

def forward (d : Dev nD) (g : Vec F S1x1024 .f32) (k : Fin 8) (rest : Code F) : Code F :=
  .op (.waitDma2 (sem8 cc0_scratch8 k) (chunk sendM k) (chunk recvxM k)
    ((Memref.isWhole_whole _).wordExact_slice rfl _ (rows_words k)) ((Memref.isWhole_whole _).wordExact_slice rfl _ (rows_words k))) fun _ =>
  passOn (toY d k) k <|
  .op (.load recvxM (rows k).toLoadRect (View.loadsAt_vmem h_S64x1024)) fun x =>
  .op (.load lrowsM (nearRows d k).toLoadRect (View.loadsAt_vmem h_S64x1024)) fun l =>
  .op (.load outM (nearRows d k).toLoadRect (View.loadsAt_vmem h_S64x1024)) fun _ =>
  .op (.store outM (nearRows d k) (normed g x l) Finset.univ (View.stores_vmem h_S64x1024
    (outM_whole.storeExact_slice rfl _ (k0_off3_packedbf16 d k)) (fun _ => rfl)) (.inl rfl)) fun _ => rest

def finish (d : Dev nD) (g : Vec F S1x1024 .f32) (k : Fin 8) (rest : Code F) : Code F :=
  .op (.waitDma2 (sem8 cc0_scratch10 k) (chunk recvxM k) (chunk recvyM k)
    ((Memref.isWhole_whole _).wordExact_slice rfl _ (rows_words k)) ((Memref.isWhole_whole _).wordExact_slice rfl _ (rows_words k))) fun _ =>
  .op (.load recvyM (rows k).toLoadRect (View.loadsAt_vmem h_S64x1024)) fun x =>
  .op (.load lrowsM (farRows d k).toLoadRect (View.loadsAt_vmem h_S64x1024)) fun l =>
  .op (.load outM (farRows d k).toLoadRect (View.loadsAt_vmem h_S64x1024)) fun _ =>
  .op (.store outM (farRows d k) (normed g x l) Finset.univ (View.stores_vmem h_S64x1024
    (outM_whole.storeExact_slice rfl _ (k0_off4_packedbf16 d k)) (fun _ => rfl)) (.inl rfl)) fun _ => rest

def settle (k : Fin 8) (rest : Code F) : Code F :=
  .op (.waitDma2 (sem8 cc0_scratch7 k) (chunk recvxM k) (chunk sendM k)
    ((Memref.isWhole_whole _).wordExact_slice rfl _ (rows_words k)) ((Memref.isWhole_whole _).wordExact_slice rfl _ (rows_words k))) fun _ =>
  .op (.waitDma2 (sem8 cc0_scratch9 k) (chunk recvyM k) (chunk recvxM k)
    ((Memref.isWhole_whole _).wordExact_slice rfl _ (rows_words k)) ((Memref.isWhole_whole _).wordExact_slice rfl _ (rows_words k))) fun _ => rest

/-- The whole body. -/
def flow : Code F :=
  .op .deviceId fun d =>
  eachChunk (copyIn d) <| copyOwn d <| meet d <| eachChunk (sendOut d) <| awaitOwn d fun g =>
  eachChunk (forward d g) <| eachChunk (finish d g) <| eachChunk settle <| .ret ⟨⟩

set_option maxRecDepth 65536 in
set_option maxHeartbeats 4000000 in
/-- The printed body, on the buffers it is called with, is the fold. -/
theorem body_eq (t : Fin cfg0.N) : bodyAt0 (F := F) t = flow := by
  obtain rfl := fin_N0 t; rfl

end Cert.KernelIdeal.Body

end
-- ==== Proof.Contents.lean ====
/- What every buffer holds, as a function of the devices' partial blocks `P` and scales `G`; the two neighbours a device
   exchanges rows with; and what a copy or a store leaves behind, read off these functions. -/
module

public import proofs.«01_k».proof.Proof.Program
public import Idealize.ShloMosaic.Lib.ValueLayout
public import Idealize.ShloMosaic.Lib.Pipeline.ValueKit.Geometry

@[expose] public section

noncomputable section

namespace Cert.KernelIdeal.Body

open Idealize.ShloMosaic Idealize.ShloMosaic.TcCoe Idealize.SL.Sem
open Idealize.ShloMosaic.ValueIdx
open Cert.KernelIdeal.Gen

variable {F : FTy → Type} [FloatOps F]

/-! ## Neighbours -/

/-- The device with the other `x` coordinate, and the one with the other `y` coordinate. -/
abbrev xp : Dev nD → Dev nD := ![2, 3, 0, 1]
abbrev yp : Dev nD → Dev nD := ![1, 0, 3, 2]

theorem xp_xp (c : Dev nD) : xp (xp c) = c := by revert c; decide
theorem yp_yp (c : Dev nD) : yp (yp c) = c := by revert c; decide
theorem toX_eq (c : Dev nD) (k : Fin 8) : toX c k = xp c := by revert c k; decide
theorem toY_eq (c : Dev nD) (k : Fin 8) : toY c k = yp c := by revert c k; decide
theorem meetX_eq (c : Dev nD) : (⟨k0_dev1 c, k0_dev1_lt c⟩ : Dev nD) = xp c := by revert c; decide
theorem meetY_eq (c : Dev nD) : (⟨k0_dev2 c, k0_dev2_lt c⟩ : Dev nD) = yp c := by revert c; decide

/-! ## Contents -/

/-- Row `r` of the half of the partial block that device `c` sends away, and row `r` of the half it keeps. -/
def sentRow (c : Dev nD) (r : Fin 512) : Fin 2048 :=
  ⟨(512 * (c.val % 2) + r.val + 1024) - 1024 * (c.val / 2), by omega⟩

def keptRow (c : Dev nD) (r : Fin 1024) : Fin 2048 :=
  ⟨1024 * (c.val / 2) + r.val, by have : c.val < 4 := c.isLt; omega⟩

section Of

variable (P : Dev nD → Vec F S1x2048x1024 .f32) (G : Dev nD → Vec F S1x1024 .f32) (c : Dev nD)

/-- The rows device `c` sends, and those it keeps. -/
def sent : Vec F S512x1024 .f32 := fun i => P c (ix3 (0 : Fin 1) (sentRow c (i 0)) (i 1))
def kept : Vec F S1024x1024 .f32 := fun i => P c (ix3 (0 : Fin 1) (keptRow c (i 0)) (i 1))

/-- The rows as they are sent, the rows received from the `x` neighbour, and those forwarded by the `y` neighbour. -/
def packed : Vec F S512x1024 .bf16 := truncf .bf16 (sent P c) bitsLt_bf16_f32
def gotX : Vec F S512x1024 .bf16 := packed P (xp c)
def gotY : Vec F S512x1024 .bf16 := gotX P (yp c)

/-- Chunk `k` of 512 rows, and of half `h` of 1024 rows. -/
def part {e : EltTy} (x : Vec F S512x1024 e) (k : Fin 8) : Vec F S64x1024 e :=
  fun j => x (ix2 (⟨64 * k.val + (j 0).val, by have := idx2_lt0 j; omega⟩ : Fin 512) (j 1))

def halfPart {e : EltTy} (x : Vec F S1024x1024 e) (h : Fin 2) (k : Fin 8) : Vec F S64x1024 e :=
  fun j => x (ix2 (⟨512 * h.val + 64 * k.val + (j 0).val, by have := idx2_lt0 j; omega⟩ : Fin 1024) (j 1))

/-- The half of the result device `c` computes from what it receives itself, and the other one. -/
def near : Fin 2 := ⟨c.val % 2, by omega⟩
def far : Fin 2 := ⟨(c.val + 1) % 2, by omega⟩

/-- What half `h` is summed with. -/
def got (h : Fin 2) : Vec F S512x1024 .bf16 := if h = near c then gotX P c else gotY P c

/-- Chunk `k` of half `h` of the result. -/
def resultPart (h : Fin 2) (k : Fin 8) : Vec F S64x1024 .bf16 :=
  normed (G c) (part (got P c h) k) (halfPart (kept P c) h k)

/-- The result. -/
def result : Vec F S1024x1024 .bf16 := fun i =>
  resultPart P G c ⟨(i 0).val / 512, by have := idx2_lt0 i; omega⟩ ⟨(i 0).val % 512 / 64, by omega⟩
    (ix2 (⟨(i 0).val % 64, by omega⟩ : Fin 64) (i 1))

end Of

/-! ## Reading and writing these contents through views -/

/-- A write through a view leaves `g` on the view's elements if its payload is `g` there. -/
theorem write_agrees {κ : Kind} {sp : Space} {s : Shape} {e : EltTy} (v : View sig κ sp s e)
    (f g : v.ty.Contents (Elt F)) (w : s.Idx → Elt F e) (h : ∀ j, v.read (Elt F) g j = w j) :
    ∀ i ∈ v.set, v.write (Elt F) f w Finset.univ i = g i := by
  intro i hi
  obtain ⟨j, -, rfl⟩ := Finset.mem_map.mp hi
  rw [View.write_emb_of_mem f w (Finset.mem_univ j), ← h j, View.read_apply, cast_cast, cast_eq]

/-- Chunk `k` of a chunked buffer, and of the near and far half of a result buffer, by coordinates. -/
theorem rows_emb (k : Fin 8) (j : S64x1024.Idx) :
    (rows k).emb j = ix2 (⟨64 * k.val + (j 0).val, by have := idx2_lt0 j; omega⟩ : Fin 512) (j 1) := by
  funext a
  refine Fin.ext ((ValueKit.rect_emb_unit_val _ _ _ _ _).trans ?_)
  match a with
  | ⟨0, _⟩ => rfl
  | ⟨1, _⟩ => exact Nat.zero_add _

theorem near_emb (c : Dev nD) (k : Fin 8) (j : S64x1024.Idx) : (nearRows c k).emb j
    = ix2 (⟨512 * (near c).val + 64 * k.val + (j 0).val, by have := idx2_lt0 j; omega⟩ : Fin 1024) (j 1) := by
  funext a
  refine Fin.ext ((ValueKit.rect_emb_unit_val _ _ _ _ _).trans ((congrArg (· + _) (congrFun (k0_off3_eq c k) a)).trans ?_))
  match a with
  | ⟨0, _⟩ => rfl
  | ⟨1, _⟩ => exact Nat.zero_add _

theorem far_emb (c : Dev nD) (k : Fin 8) (j : S64x1024.Idx) : (farRows c k).emb j
    = ix2 (⟨512 * (far c).val + 64 * k.val + (j 0).val, by have := idx2_lt0 j; omega⟩ : Fin 1024) (j 1) := by
  funext a
  refine Fin.ext ((ValueKit.rect_emb_unit_val _ _ _ _ _).trans ((congrArg (· + _) (congrFun (k0_off4_eq c k) a)).trans ?_))
  match a with
  | ⟨0, _⟩ =>
    show (64 * k.val + 512) - 512 * (c.val % 2) + (j 0).val = 512 * ((c.val + 1) % 2) + 64 * k.val + (j 0).val
    omega
  | ⟨1, _⟩ => exact Nat.zero_add _

section Views

variable (P : Dev nD → Vec F S1x2048x1024 .f32) (G : Dev nD → Vec F S1x1024 .f32) (c : Dev nD) (k : Fin 8)

/-- The rows of the partial block a device sends, chunk by chunk, and those it keeps. -/
theorem read_peerRows : (peerRows c k).view.read (Elt F) (P c) = part (sent P c) k := by
  funext j
  obtain ⟨x, y, rfl⟩ : ∃ x y, j = ix2 x y := ⟨j 0, j 1, eq_ix2 j⟩
  refine congrArg (P c) (?_ : _ = ix3 (0 : Fin 1) (sentRow c ⟨64 * k.val + x.val, _⟩) y)
  refine (congrArg (Rect.emb _) (reshapeEquiv_ix2_1ab _ x y)).trans ?_
  funext a
  refine Fin.ext ((ValueKit.rect_emb_unit_val _ _ _ _ _).trans ((congrArg (· + _) (congrFun (k0_off1_eq c k) a)).trans ?_))
  match a with
  | ⟨0, _⟩ => rfl
  | ⟨1, _⟩ =>
    show (512 * (c.val % 2) + 64 * k.val + 1024) - 1024 * (c.val / 2) + x.val
      = (512 * (c.val % 2) + (64 * k.val + x.val) + 1024) - 1024 * (c.val / 2)
    have : c.val < 4 := c.isLt
    omega
  | ⟨2, _⟩ => exact Nat.zero_add _

theorem read_ownRows : (ownRows c).view.read (Elt F) (P c) = kept P c := by
  funext j
  obtain ⟨x, y, rfl⟩ : ∃ x y, j = ix2 x y := ⟨j 0, j 1, eq_ix2 j⟩
  refine congrArg (P c) (?_ : _ = ix3 (0 : Fin 1) (keptRow c x) y)
  refine (congrArg (Rect.emb _) (reshapeEquiv_ix2_1ab _ x y)).trans ?_
  funext a
  refine Fin.ext ((ValueKit.rect_emb_unit_val _ _ _ _ _).trans ((congrArg (· + _) (congrFun (k0_off2_eq c) a)).trans ?_))
  match a with
  | ⟨0, _⟩ => rfl
  | ⟨1, _⟩ => rfl
  | ⟨2, _⟩ => exact Nat.zero_add _

/-- A chunk of a chunked buffer reads as that part of its contents. -/
theorem read_psrc (x : Vec F S512x1024 .f32) : (chunk psrcM k).view.read (Elt F) x = part x k :=
  funext fun j => congrArg x (rows_emb k j)
theorem read_send (x : Vec F S512x1024 .bf16) : (chunk sendM k).view.read (Elt F) x = part x k :=
  funext fun j => congrArg x (rows_emb k j)
theorem read_recvx (x : Vec F S512x1024 .bf16) : (chunk recvxM k).view.read (Elt F) x = part x k :=
  funext fun j => congrArg x (rows_emb k j)
theorem read_recvy (x : Vec F S512x1024 .bf16) : (chunk recvyM k).view.read (Elt F) x = part x k :=
  funext fun j => congrArg x (rows_emb k j)
theorem read_near (x : Vec F S1024x1024 .f32) : (lrowsM.access (nearRows c k)).read (Elt F) x = halfPart x (near c) k :=
  funext fun j => congrArg x (near_emb c k j)
theorem read_far (x : Vec F S1024x1024 .f32) : (lrowsM.access (farRows c k)).read (Elt F) x = halfPart x (far c) k :=
  funext fun j => congrArg x (far_emb c k j)
theorem read_out_near (x : Vec F S1024x1024 .bf16) : (outM.access (nearRows c k)).read (Elt F) x = halfPart x (near c) k :=
  funext fun j => congrArg x (near_emb c k j)
theorem read_out_far (x : Vec F S1024x1024 .bf16) : (outM.access (farRows c k)).read (Elt F) x = halfPart x (far c) k :=
  funext fun j => congrArg x (far_emb c k j)
theorem read_gv (x : Vec F S1x1024 .f32) : (gvM.access gRect).read (Elt F) x = x := by
  funext j
  refine congrArg x (funext fun a => Fin.ext ((ValueKit.rect_emb_unit_val _ _ _ _ _).trans ?_))
  match a with
  | ⟨0, _⟩ => exact Nat.zero_add _
  | ⟨1, _⟩ => exact Nat.zero_add _

/-- Rounding commutes with taking a chunk. -/
theorem narrow_part : narrow (part (sent P c) k) = part (packed P c) k := by
  funext j
  show k0_pay4 (part (sent P c) k) j = _
  unfold k0_pay4
  rw [shapeCast_self]
  rfl

/-- A half of the result, chunk by chunk. -/
theorem halfPart_result (h : Fin 2) : halfPart (result P G c) h k = resultPart P G c h k := by
  funext j
  obtain ⟨x, y, rfl⟩ : ∃ x y, j = ix2 x y := ⟨j 0, j 1, eq_ix2 j⟩
  have h1 : (512 * h.val + 64 * k.val + x.val) / 512 = h.val := by omega
  have h2 : (512 * h.val + 64 * k.val + x.val) % 512 / 64 = k.val := by omega
  have h3 : (512 * h.val + 64 * k.val + x.val) % 64 = x.val := by omega
  show resultPart P G c ⟨(512 * h.val + 64 * k.val + x.val) / 512, _⟩ ⟨(512 * h.val + 64 * k.val + x.val) % 512 / 64, _⟩
    (ix2 (⟨(512 * h.val + 64 * k.val + x.val) % 64, _⟩ : Fin 64) y) = _
  exact congr (congrArg₂ (resultPart P G c) (Fin.ext h1) (Fin.ext h2))
    (congrArg (fun z : Fin 64 => ix2 z y) (Fin.ext h3))

theorem near_ne_far : far c ≠ near c := by revert c; decide

theorem result_near : normed (G c) (part (gotX P c) k) (halfPart (kept P c) (near c) k)
    = halfPart (result P G c) (near c) k := by
  rw [halfPart_result, resultPart, got, if_pos rfl]

theorem result_far : normed (G c) (part (gotY P c) k) (halfPart (kept P c) (far c) k)
    = halfPart (result P G c) (far c) k := by
  rw [halfPart_result, resultPart, got, if_neg (near_ne_far c)]

end Views

/-! ## The chunks tile -/

theorem rows_disjoint (k k' : Fin 8) (h : k ≠ k') : Disjoint (rows k).set (rows k').set :=
  Rect.unit_disjoint 0 (by revert k k'; decide)

theorem rows_cover (i : S512x1024.Idx) : ∃ k, i ∈ (rows k).set :=
  ⟨⟨(i 0).val / 64, by have := idx2_lt0 i; omega⟩, Rect.mem_set_unit.mpr fun a => by
    match a with
    | ⟨0, _⟩ => exact ⟨Nat.mul_div_le _ _, Nat.lt_mul_div_succ _ (by decide)⟩
    | ⟨1, _⟩ => exact ⟨Nat.zero_le _, (idx2_lt1 i).trans_eq (Nat.zero_add _).symm⟩⟩

/-- The near and far rectangles cover the result. -/
theorem near_or_far (c : Dev nD) (i : S1024x1024.Idx) :
    (∃ k, i ∈ (outM.access (nearRows c k)).set) ∨ ∃ k, i ∈ (outM.access (farRows c k)).set := by
  obtain ⟨x, y, rfl⟩ : ∃ x y, i = ix2 x y := ⟨i 0, i 1, eq_ix2 i⟩
  have h : ∀ h : Fin 2, h = near c ∨ h = far c := by revert c; decide
  let k : Fin 8 := ⟨x.val % 512 / 64, by omega⟩
  let j : S64x1024.Idx := ix2 (⟨x.val % 64, by omega⟩ : Fin 64) y
  have e : ∀ h : Fin 2, h.val = x.val / 512 →
      ix2 (⟨512 * h.val + 64 * k.val + (j 0).val, by have := idx2_lt0 j; omega⟩ : Fin 1024) (j 1) = ix2 x y := fun h hh =>
    congrArg (fun z : Fin 1024 => ix2 z y) (Fin.ext (by
      show 512 * h.val + 64 * (x.val % 512 / 64) + x.val % 64 = x.val
      omega))
  rcases h ⟨x.val / 512, by omega⟩ with h | h
  · refine .inl ⟨k, ?_⟩
    rw [← e (near c) (congrArg Fin.val h).symm, ← near_emb c k j]
    exact View.emb_mem_set (outM.access (nearRows c k)) j
  · refine .inr ⟨k, ?_⟩
    rw [← e (far c) (congrArg Fin.val h).symm, ← far_emb c k j]
    exact View.emb_mem_set (outM.access (farRows c k)) j

end Cert.KernelIdeal.Body
-- ==== Proof.Schedule.lean ====
/- The protocol, for symbolic devices and chunks, over any float values.

   Device `c` first copies its partial block from its HBM into its own buffers: the eight chunks it will send, the rows it keeps, and
   the scale. It then signals the barrier cell of both neighbours. With its signal it hands each neighbour the buffer
   that neighbour will write: `recvx`, chunk by chunk, to the `x` neighbour and `recvy` to the `y` neighbour. Having been
   signalled twice itself, it sends chunk after chunk to the `x` neighbour's `recvx`; as its own `recvx` fills, it forwards
   each chunk to the `y` neighbour's `recvy`, keeping half a share of the chunk to read it while it is forwarded.

   Every cell has one round. The barrier cell has one duty for each neighbour; every other cell has one duty, a copy's. -/
module

public import proofs.«01_k».proof.Proof.Contents
public import Idealize.ShloMosaic.Lib.Rounds
public import Idealize.ShloMosaic.Lib.Ring
public import Idealize.ShloMosaic.Lib.Pipeline.Kit
public import Idealize.ShloMosaic.Harness.Basic

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The DMA cells of one device: five families of eight, one cell for each chunk, and two single ones. -/
abbrev Own : Type := (Fin 5 × Fin 8) ⊕ Fin 2

/-- Chunk `k` copied in; sent; received; forwarded; received forwarded. The kept rows, and the scale, copied in. -/
abbrev oIn (k : Fin 8) : Own := .inl (0, k)
abbrev oSent (k : Fin 8) : Own := .inl (1, k)
abbrev oGot (k : Fin 8) : Own := .inl (2, k)
abbrev oFwd (k : Fin 8) : Own := .inl (3, k)
abbrev oGotFwd (k : Fin 8) : Own := .inl (4, k)
abbrev oKept : Own := .inr 0
abbrev oScale : Own := .inr 1

abbrev osem : Own → SemLoc sig
  | .inl (0, k) => .dma (lsem (k.castLE (by decide)))
  | .inl (1, k) => .dma (sem8 cc0_scratch7 k)
  | .inl (2, k) => .dma (sem8 cc0_scratch8 k)
  | .inl (3, k) => .dma (sem8 cc0_scratch9 k)
  | .inl (4, k) => .dma (sem8 cc0_scratch10 k)
  | .inr 0 => .dma (lsem 8)
  | .inr 1 => .dma (lsem 9)

theorem osem_injective : Function.Injective osem := by decide +kernel

theorem osem_ne_bar (o : Own) : osem o ≠ .reg barS := by revert o; decide

/-- Which cell a semaphore is. -/
def whose : SemLoc sig → Option Own := Function.partialInv osem

theorem whose_osem (o : Own) : whose (osem o) = some o := Function.partialInv_left osem_injective o

abbrev cell (c : Dev nD) (o : Own) : GSem nD τ sig := ((c : Thread nD τ), osem o)
abbrev barCell (c : Dev nD) : GSem nD τ sig := ((c : Thread nD τ), .reg barS)

/-! ## What is held, what is handed over -/

/-- The elements of memref `m` on device `c`, at share `q`, holding `f`. -/
abbrev held {sp : Space} {s : Shape} {e : EltTy} (m : Memref sig .tc sp s e) (c : Dev nD) (q : PosShare TreeShare)
    (f : Buf (Elt F) (m.view.loc (c : Thread nD τ))) : sProp 𝕄 :=
  m.view.loc (c : Thread nD τ) ↦[m.view.set]{q} f

/-- The share of the partial block that copy `j` reads with: the eight chunks' and, last, the kept rows'. -/
def dealt (j : Fin 9) : PosShare TreeShare := Transfers.dealOf fullShare Finset.univ j

section Sched

variable (P : Dev nD → Vec F S1x2048x1024 .f32) (G : Dev nD → Vec F S1x1024 .f32)

/-- What the copy on each cell hands over: the elements written, holding what they were written with, and of a local copy
    also the share it read with. -/
def landing (c : Dev nD) : Own → sProp 𝕄
  | .inl (0, k) => iprop(held (chunk psrcM k) c fullShare (sent P c) ∗ held (peerRows c k) c (dealt (k.castLE (by decide))) (P c))
  | .inl (1, k) => held (chunk sendM k) c fullShare (packed P c)
  | .inl (2, k) => held (chunk recvxM k) c fullShare (gotX P c)
  | .inl (3, k) => held (chunk recvxM k) c fullShare.left (gotX P c)
  | .inl (4, k) => held (chunk recvyM k) c fullShare (gotY P c)
  | .inr 0 => iprop(held lrowsM c fullShare (kept P c) ∗ held (ownRows c) c (dealt 8) (P c))
  | .inr 1 => iprop(held gvM c fullShare (G c) ∗ held gM c fullShare (G c))

/-- What the neighbours' signals hand device `c`: their buffers, chunk by chunk, with the news that their cells are open. -/
def signalX (c : Dev nD) : sProp 𝕄 :=
  bigSep Finset.univ fun k => iprop((∃ f, held (chunk recvxM k) (xp c) fullShare f) ∗ reached ER (cell (xp c) (oGot k)) 0)
def signalY (c : Dev nD) : sProp 𝕄 :=
  bigSep Finset.univ fun k => iprop((∃ f, held (chunk recvyM k) (yp c) fullShare f) ∗ reached ER (cell (yp c) (oGotFwd k)) 0)

instance landing_storable (c : Dev nD) (o : Own) : BI.Storable (upEmb : UEmb _ 𝕄) (landing P G c o) := by
  unfold landing
  split <;> infer_instance
instance signalX_storable (c : Dev nD) : BI.Storable (upEmb : UEmb _ 𝕄) (signalX (F := F) c) := by
  unfold signalX; infer_instance
instance signalY_storable (c : Dev nD) : BI.Storable (upEmb : UEmb _ 𝕄) (signalY (F := F) c) := by
  unfold signalY; infer_instance

/-- The units a copy of 64 rows counts, in the two formats, and the units of each cell's copy. -/
abbrev units : ℕ := (chunk recvxM 0).view.dmaCredit
def amt : Own → ℕ
  | .inl (0, k) => (chunk psrcM k).view.dmaCredit
  | .inl _ => units
  | .inr 0 => lrowsM.view.dmaCredit
  | .inr 1 => gvM.view.dmaCredit

theorem amt_pos (o : Own) : 0 < amt o := by
  unfold amt
  split <;> exact View.dmaCredit_pos _ (by decide)

def Rd : Rounds.Schedule (GSem nD τ sig) Bool 𝕄 where
  duties g r := if r = 0 ∧ g.1.2 = .tc then
      (if g.2 = .reg barS then Finset.univ else if (whose g.2).isSome then {false} else ∅) else ∅
  unitless _ := False
  amount g _ _ := if g.2 = .reg barS then 1 else (whose g.2).elim 1 amt
  payload g _ d := if g.2 = .reg barS then (if d then signalY g.1.1 else signalX g.1.1)
    else (whose g.2).elim iprop(emp) (landing P G g.1.1)
  amount_pos g _ _ _ := by
    split
    · exact Nat.one_pos
    · cases whose g.2 with
      | none => exact Nat.one_pos
      | some o => exact amt_pos o

instance Rd_payload_storable (g : GSem nD τ sig) (r : ℕ) (d : Bool) :
    BI.Storable (upEmb : UEmb _ 𝕄) ((Rd P G).payload g r d) := by
  show BI.Storable upEmb (if g.2 = .reg barS then (if d then signalY g.1.1 else signalX g.1.1)
    else (whose g.2).elim iprop(emp) (landing P G g.1.1))
  split
  · split <;> infer_instance
  · cases whose g.2 with
    | none => exact inferInstanceAs (BI.Storable upEmb iprop(emp))
    | some o => exact landing_storable P G g.1.1 o

variable (c : Dev nD) (o : Own)

theorem duties_bar : (Rd P G).duties (barCell c) 0 = Finset.univ := by
  dsimp only [Rd]; rw [if_pos ⟨rfl, rfl⟩, if_pos rfl]
theorem duties_own : (Rd P G).duties (cell c o) 0 = {false} := by
  dsimp only [Rd]; rw [if_pos ⟨rfl, rfl⟩, if_neg (osem_ne_bar o), whose_osem]; rfl
theorem duties_later (g : GSem nD τ sig) (r : ℕ) (hr : 1 ≤ r) : (Rd P G).duties g r = ∅ :=
  if_neg fun h => by omega

theorem amount_bar (d : Bool) : (Rd P G).amount (barCell c) 0 d = 1 := by
  dsimp only [Rd]; exact if_pos rfl
theorem amount_own (d : Bool) : (Rd P G).amount (cell c o) 0 d = amt o := by
  dsimp only [Rd]; rw [if_neg (osem_ne_bar o), whose_osem]; rfl

theorem expect_bar : (Rd P G).expect (barCell c) 0 = 2 := by
  unfold Schedule.expect Schedule.amountOf
  rw [duties_bar, Finset.sum_congr rfl fun d _ => amount_bar P G c d]; rfl
theorem expect_own : (Rd P G).expect (cell c o) 0 = amt o := by
  unfold Schedule.expect Schedule.amountOf; rw [duties_own, Finset.sum_singleton, amount_own]

theorem payload_bar (d : Bool) : (Rd P G).payload (barCell c) 0 d = if d then signalY c else signalX c := by
  dsimp only [Rd]; exact if_pos rfl
theorem payload_own (d : Bool) : (Rd P G).payload (cell c o) 0 d = landing P G c o := by
  dsimp only [Rd]; rw [if_neg (osem_ne_bar o), whose_osem]; rfl

theorem rest_own : bigSep ((Rd P G).duties (cell c o) 0 \ ∅) (fun d => (Rd P G).payload (cell c o) 0 d) = landing P G c o := by
  rw [Finset.sdiff_empty, duties_own, bigSep_singleton, payload_own]

theorem rest_bar : bigSep ((Rd P G).duties (barCell c) 0 \ ∅) (fun d => (Rd P G).payload (barCell c) 0 d)
    = iprop(signalY c ∗ signalX c) := by
  rw [Finset.sdiff_empty, duties_bar, show (Finset.univ : Finset Bool) = {true, false} from rfl,
    bigSep_insert (by decide), bigSep_singleton, payload_bar, payload_bar]
  rfl

end Sched

/-! ## Debts and levels -/

/-- The chunks from number `t` on. -/
def chunksFrom (t : ℕ) : Finset (Fin 8) := Finset.univ.filter (t ≤ ·.val)

theorem chunksFrom_zero : chunksFrom 0 = Finset.univ := by decide
theorem chunksFrom_eight : chunksFrom 8 = ∅ := by decide
theorem chunksFrom_step (k : Fin 8) : chunksFrom k = insert k (chunksFrom (k + 1)) := by revert k; decide
theorem notMem_chunksFrom (k : Fin 8) : k ∉ chunksFrom (k + 1) := by revert k; decide

abbrev dueX (c : Dev nD) (k : Fin 8) : CellTallies nD τ sig Unit := tallyAt (cell (xp c) (oGot k)) () units
abbrev dueY (c : Dev nD) (k : Fin 8) : CellTallies nD τ sig Unit := tallyAt (cell (yp c) (oGotFwd k)) () units

/-- What device `c` still owes before sending chunk `i` and forwarding chunk `j`; -/
def owe (c : Dev nD) (i j : ℕ) : CellTallies nD τ sig Unit :=
  ∑ k ∈ chunksFrom i, dueX c k + ∑ k ∈ chunksFrom j, dueY c k
/-- and at launch, with its two signals. -/
def oweAll (c : Dev nD) : CellTallies nD τ sig Unit :=
  (owe c 0 0 + tallyAt (barCell (yp c)) () 1) + tallyAt (barCell (xp c)) () 1

theorem owe_send (c : Dev nD) (k : Fin 8) (j : ℕ) : owe c k j = owe c (k + 1) j + dueX c k := by
  unfold owe
  rw [chunksFrom_step, Finset.sum_insert (notMem_chunksFrom k), add_assoc, add_comm]
theorem owe_forward (c : Dev nD) (i : ℕ) (k : Fin 8) : owe c i k = owe c i (k + 1) + dueY c k := by
  unfold owe
  rw [chunksFrom_step k, Finset.sum_insert (notMem_chunksFrom k), add_assoc, add_comm (dueY c k)]
theorem owe_nothing (c : Dev nD) : owe c 8 8 = 0 := by
  unfold owe; rw [chunksFrom_eight, Finset.sum_empty, Finset.sum_empty, add_zero]

def L (g : GSem nD τ sig) : Finset Unit := if g.1.2 = .tc then {()} else ∅
/-- Local copies and sends below the barrier, the barrier below what is received, that below what is received forwarded. -/
def lv (g : GSem nD τ sig) (_ : Unit) : ℕ :=
  if g.2 = .reg barS then 1 else match whose g.2 with
    | some (.inl (2, _)) => 2
    | some (.inl (4, _)) => 3
    | _ => 0

theorem L_of_ne (g : GSem nD τ sig) (h : g.1.2 ≠ .tc) : L g = ∅ := if_neg h
theorem mem_L (c : Dev nD) (sm : SemLoc sig) (u : Unit) : u ∈ L ((c : Thread nD τ), sm) := by
  unfold L; rw [if_pos rfl]; exact Finset.mem_singleton_self _
theorem lv_bar (c : Dev nD) : lv (barCell c) () = 1 := if_pos rfl
theorem lv_own (c : Dev nD) (o : Own) : lv (cell c o) () = match o with | .inl (2, _) => 2 | .inl (4, _) => 3 | _ => 0 := by
  unfold lv; rw [if_neg (osem_ne_bar o), whose_osem]
  obtain ⟨a, k⟩ | j := o
  · fin_cases a <;> rfl
  · rfl

theorem tallyAt_pos {g g' : GSem nD τ sig} {u : Unit} {n : ℕ} (h : 0 < (tallyAt g' () n : CellTallies nD τ sig Unit) g u) : g = g' := by
  rw [tallyAt_apply] at h
  split at h
  · next hg => exact hg.1
  · exact absurd h (Nat.lt_irrefl 0)

theorem owe_pos {c : Dev nD} {i j : ℕ} {g : GSem nD τ sig} {u : Unit} (h : 0 < owe c i j g u) :
    (∃ k ∈ chunksFrom i, g = cell (xp c) (oGot k)) ∨ ∃ k ∈ chunksFrom j, g = cell (yp c) (oGotFwd k) := by
  unfold owe at h
  rw [Pi.add_apply, Finsupp.add_apply, Finset.sum_apply, Finset.sum_apply, Finsupp.finsetSum_apply, Finsupp.finsetSum_apply] at h
  rcases Nat.add_pos_iff_pos_or_pos.mp h with h | h
  · obtain ⟨k, hk, hp⟩ := Finset.exists_ne_zero_of_sum_ne_zero h.ne'
    exact .inl ⟨k, hk, tallyAt_pos (Nat.pos_of_ne_zero hp)⟩
  · obtain ⟨k, hk, hp⟩ := Finset.exists_ne_zero_of_sum_ne_zero h.ne'
    exact .inr ⟨k, hk, tallyAt_pos (Nat.pos_of_ne_zero hp)⟩

theorem oweAll_pos {c : Dev nD} {g : GSem nD τ sig} {u : Unit} (h : 0 < oweAll c g u) :
    ∃ (d : Dev nD) (sm : SemLoc sig), g = ((d : Thread nD τ), sm) ∧ 0 < lv g u := by
  unfold oweAll at h
  rw [Pi.add_apply, Finsupp.add_apply, Pi.add_apply, Finsupp.add_apply] at h
  rcases Nat.add_pos_iff_pos_or_pos.mp h with h | h
  · rcases Nat.add_pos_iff_pos_or_pos.mp h with h | h
    · rcases owe_pos h with ⟨k, -, rfl⟩ | ⟨k, -, rfl⟩
      · exact ⟨_, _, rfl, by rw [lv_own]; exact Nat.succ_pos _⟩
      · exact ⟨_, _, rfl, by rw [lv_own]; exact Nat.succ_pos _⟩
    · obtain rfl := tallyAt_pos h; exact ⟨_, _, rfl, by rw [lv_bar]; decide⟩
  · obtain rfl := tallyAt_pos h; exact ⟨_, _, rfl, by rw [lv_bar]; decide⟩

/-- A cell below everything still owed may be waited on: below the received chunks' cells while any of them is owed, and
    below the forwarded chunks' once none is. -/
theorem mayWait_owe (c : Dev nD) (sm : SemLoc sig) (i j : ℕ) (n : ℕ) (hn : lv ((c : Thread nD τ), sm) () ≤ n)
    (hi : n < 2 ∨ n < 3 ∧ i = 8) : (levAts L lv : sProp 𝕄) ⊢ MayWait (c : Thread nD τ) sm () (owe c i j) :=
  MayOwe.of_cut (L := L) (lev := lv) n (fun p hp => by rw [Finset.mem_singleton.mp hp]; exact mem_L c sm ())
    (fun g u hg => by rcases owe_pos hg with ⟨k, -, rfl⟩ | ⟨k, -, rfl⟩ <;> exact mem_L _ _ u)
    (fun p hp => by rw [Finset.mem_singleton.mp hp]; exact hn)
    (fun g u hg => by
      rcases owe_pos hg with ⟨k, hk, rfl⟩ | ⟨k, -, rfl⟩
      · rw [lv_own]
        rcases hi with hi | ⟨-, rfl⟩
        · exact hi
        · rw [chunksFrom_eight] at hk; exact absurd hk (Finset.notMem_empty k)
      · rw [lv_own]
        show n < 3
        omega)

/-- Once nothing is owed, any cell may be waited on. -/
theorem mayWait_done (c : Dev nD) (sm : SemLoc sig) : (levAts L lv : sProp 𝕄) ⊢ MayWait (c : Thread nD τ) sm () (owe c 8 8) :=
  have none : ∀ g u, ¬ 0 < owe c 8 8 g u := fun g u hg => by rw [owe_nothing] at hg; exact absurd hg (Nat.lt_irrefl 0)
  MayOwe.of_cut (L := L) (lev := lv) (lv ((c : Thread nD τ), sm) ()) (fun p hp => by rw [Finset.mem_singleton.mp hp]; exact mem_L c sm ())
    (fun g u hg => absurd hg (none g u)) (fun p hp => by rw [Finset.mem_singleton.mp hp])
    (fun g u hg => absurd hg (none g u))

end Cert.KernelIdeal.Body

end
-- ==== Proof.Rules.lean ====
/- The rules of the protocol's moves, one each for a wait, a local copy, an addressed copy and a loop over the chunks, with
   the bookkeeping of cells, tokens and debts folded away. -/
module

public import proofs.«01_k».proof.Proof.Schedule
public import Idealize.ShloMosaic.Lib.Tactic

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

abbrev 𝒱₀ : Variants := Variants.none

/-- Device `c` runs `p` to a state where `Q` holds. -/
abbrev run (c : Dev nD) (p : Code F) (Q : PUnit → sProp 𝕄) : sProp 𝕄 :=
  wp frame (wpE (defs₀ (F := F)) 𝒱₀ (c : Thread nD τ) none) Set.univ p Q

/-! ## Cells of the whole mesh -/

def barEmb : Dev nD ↪ GSem nD τ sig := ⟨fun c => barCell c, fun _ _ h => congrArg (fun g : GSem nD τ sig => g.1.1) h⟩
def ownEmb : Dev nD × Own ↪ GSem nD τ sig :=
  ⟨fun co => cell co.1 co.2, fun _ _ h =>
    Prod.ext (congrArg (fun g : GSem nD τ sig => g.1.1) h) (osem_injective (congrArg Prod.snd h))⟩

abbrev barCells : Finset (GSem nD τ sig) := Finset.univ.map barEmb
abbrev ownCells : Finset (GSem nD τ sig) := Finset.univ.map ownEmb

variable (P : Dev nD → Vec F S1x2048x1024 .f32) (G : Dev nD → Vec F S1x1024 .f32)

/-- Every cell follows the schedule, every barrier cell is open, and the levels are as they are. -/
def invs (κ : GSem nD τ sig → ℕ) : sProp 𝕄 :=
  iprop((bigSep (barCells ∪ ownCells) fun g => cellInv ER (Rd P G) (κ g) g) ∗ (bigSep barCells fun g => reached ER g 0))
def facts (κ : GSem nD τ sig → ℕ) : sProp 𝕄 := iprop(invs P G κ ∗ levAts L lv)

instance invs_persistent (κ : GSem nD τ sig → ℕ) : BI.Persistent (invs P G κ) := by unfold invs; infer_instance
instance facts_persistent (κ : GSem nD τ sig → ℕ) : BI.Persistent (facts P G κ) := by unfold facts; infer_instance

theorem inv_own (κ : GSem nD τ sig → ℕ) (c : Dev nD) (o : Own) :
    invs P G κ ⊢ cellInv ER (Rd P G) (κ (cell c o)) (cell c o) := by
  unfold invs
  iintro ⟨H, -⟩
  iapply (show (bigSep (barCells ∪ ownCells) fun g => (cellInv ER (Rd P G) (κ g) g : sProp 𝕄)) ⊢ cellInv ER (Rd P G) (κ (cell c o)) (cell c o)
    from bigSep_elim (Finset.mem_union_right _ (Finset.mem_map_of_mem ownEmb (Finset.mem_univ (c, o))))) $$ H
theorem inv_bar (κ : GSem nD τ sig → ℕ) (c : Dev nD) :
    invs P G κ ⊢ cellInv ER (Rd P G) (κ (barCell c)) (barCell c) := by
  unfold invs
  iintro ⟨H, -⟩
  iapply (show (bigSep (barCells ∪ ownCells) fun g => (cellInv ER (Rd P G) (κ g) g : sProp 𝕄)) ⊢ cellInv ER (Rd P G) (κ (barCell c)) (barCell c)
    from bigSep_elim (Finset.mem_union_left _ (Finset.mem_map_of_mem barEmb (Finset.mem_univ c)))) $$ H
theorem reached_bar (κ : GSem nD τ sig → ℕ) (c : Dev nD) : invs P G κ ⊢ reached ER (barCell c) 0 := by
  unfold invs
  iintro ⟨-, H⟩
  iapply (show (bigSep barCells fun g => (reached ER g 0 : sProp 𝕄)) ⊢ reached ER (barCell c) 0
    from bigSep_elim (Finset.mem_map_of_mem barEmb (Finset.mem_univ c))) $$ H

/-! ## What is held of a cell -/

/-- The right to wait for the copy on a cell; the right to make that copy; the cell once waited for. -/
def waiting (c : Dev nD) (o : Own) : sProp 𝕄 := atPos ER (cell c o) 0 ∅ 0
def promised (c : Dev nD) (o : Own) : sProp 𝕄 := cred (tallyAt (cell c o) () (amt o))
def paying (c : Dev nD) (o : Own) : sProp 𝕄 := iprop(dutyTok ER (cell c o) 0 false ∗ reached ER (cell c o) 0)
def spent (c : Dev nD) (o : Own) : sProp 𝕄 := atPos ER (cell c o) 1 ∅ 0
/-- Device `c` owes `O`. -/
def owing (c : Dev nD) (O : CellTallies nD τ sig Unit) : sProp 𝕄 := iprop(∃ W, owes (c : Thread nD τ) O W)

/-! ## The moves -/

variable (κ : GSem nD τ sig → ℕ) (c : Dev nD)

/-- Waiting for the copy on an own cell. -/
theorem wait_own (o : Own) {sp sp' : Space} {s s' : Shape} {e e' : EltTy} {sem : DmaSem sig} (hs : osem o = .dma sem)
    {src : Memref sig .tc sp' s' e'} {dst : Memref sig .tc sp s e} {hsrc : src.view.WordExact} {hdst : dst.view.WordExact}
    (hN : dst.view.dmaCredit = amt o) {O : CellTallies nD τ sig Unit}
    (hw : (levAts L lv : sProp 𝕄) ⊢ MayWait (c : Thread nD τ) (osem o) () O) {k : PUnit → Code F} {Q : PUnit → sProp 𝕄} :
    iprop(facts P G κ ∗ waiting c o ∗ promised c o ∗ owing c O)
      ⊢ iprop(((owing c O ∗ spent c o ∗ landing P G c o) -∗ run c (k ⟨⟩) Q)
        -∗ run c (.op (.waitDma2 sem src dst hsrc hdst) k) Q) := by
  unfold facts waiting promised owing spent
  iintro ⟨⟨#HI, #Hlev⟩, Hat, Hc, ⟨%W, HO⟩⟩ Hk
  have hw' : ∀ K : PUnit → sProp 𝕄, wpE (defs₀ (F := F)) 𝒱₀ (c : Thread nD τ) none Set.univ (.waitDma2 sem src dst hsrc hdst) K
      = waitSpec (c : Thread nD τ) Set.univ (osem o) (amt o) K := fun K => by rw [hs, ← hN]; exact wpE_waitDma2_eq 𝒱₀ (c : Thread nD τ) none Set.univ K
  iapply (Rounds.wp_wait_rest_token 𝒱₀ ER (Rd P G) (c : Thread nD τ) none (κ := κ (cell c o)) hw'
      (Set.mem_univ _) () (O := O) (W := W) (R := 0) (m := 0) (T := ∅) ((Nat.zero_add _).trans (expect_own P G c o).symm)) $$ [Hc HO Hat]
  · isplitr; · iapply (inv_own P G κ c o); iexact HI
    isplitl [Hc]; · iexact Hc
    isplitl [HO]; · iexact HO
    isplitr; · iapply hw; iexact Hlev
    iexact Hat
  iintro ⟨HO, Hat, -, Hpay⟩
  ihave Hp := (Entails.of_eq (rest_own P G c o)) $$ Hpay
  iapply Hk
  isplitl [HO]; · iexists _; iexact HO
  isplitl [Hat]; · iexact Hat
  iexact Hp

/-- A copy within the device. -/
theorem copy_own (o : Own) {sp sp' : Space} {s : Shape} {e : EltTy} {sem : DmaSem sig} (hs : osem o = .dma sem)
    {src : Memref sig .tc sp s e} {dst : Memref sig .tc sp' s e} {hsrc : src.view.WordExact} {hdst : dst.view.WordExact}
    {hsem : DmaTarget.Typed (nD := nD) (τ := τ) (p := .tc) sp (.dma sem) (.here dst)}
    (hN : dst.view.dmaCredit = amt o) (q : PosShare TreeShare) (fs : Buf (Elt F) (src.view.loc (c : Thread nD τ)))
    (fd : Buf (Elt F) (dst.view.loc (c : Thread nD τ)))
    (hpay : iprop(held dst c fullShare (dst.view.write (Elt F) fd (src.view.read (Elt F) fs) Finset.univ) ∗ held src c q fs)
      ⊢ landing P G c o) {k : PUnit → Code F} {Q : PUnit → sProp 𝕄} :
    iprop(facts P G κ ∗ paying c o ∗ held src c q fs ∗ held dst c fullShare fd)
      ⊢ iprop((promised c o -∗ run c (k ⟨⟩) Q) -∗ run c (.op (.enqueueDma src (.here dst) (.dma sem) hsrc hdst hsem) k) Q) := by
  have hd : false ∈ (Rd P G).duties ((c : Thread nD τ), .dma sem) 0 := by
    rw [← hs, duties_own]; exact Finset.mem_singleton_self _
  have ha : (Rd P G).amount ((c : Thread nD τ), .dma sem) 0 false = amt o := by rw [← hs]; exact amount_own P G c o false
  have hp : (Rd P G).payload ((c : Thread nD τ), .dma sem) 0 false = landing P G c o := by rw [← hs]; exact payload_own P G c o false
  have hc : cell c o = ((c : Thread nD τ), .dma sem) := congrArg _ hs
  unfold facts paying promised
  iintro ⟨⟨#HI, -⟩, ⟨Ht, #Hr⟩, Hs, Hd⟩ Hk
  iapply (Rounds.wp_copy_pointsTo 𝒱₀ ER (Rd P G) (c : Thread nD τ) none (src := src) (dst := dst) (sem := .dma sem) (q := q)
      (fs := fs) (fd := fd) (r := 0) (d := false) (κ := κ (cell c o)) hd () (amt o) hN ha (hpay.trans (Entails.of_eq hp.symm))) $$ [Ht Hs Hd]
  · rw [← hc]
    isplitr; · iapply (inv_own P G κ c o); iexact HI
    isplitl [Hs]; · iexact Hs
    isplitl [Hd]; · iexact Hd
    isplitl [Ht]; · iexact Ht
    iexact Hr
  rw [← hc]
  iexact Hk

/-- A copy to device `c'`, on `o` here and `o'` there. -/
theorem send_own (c' : Dev nD) (o o' : Own) {sp sp' : Space} {s : Shape} {e : EltTy} {sS sem : DmaSem sig}
    (hs : osem o = .dma sS) (hs' : osem o' = .dma sem)
    {src : Memref sig .tc sp s e} {dst : Memref sig .tc sp' s e} {hsc : dst.view.ref.isScScratch = false}
    {hsrc : src.view.WordExact} {hdst : dst.view.WordExact}
    {hsem : DmaTarget.Typed (nD := nD) (p := .tc) sp (.dma sem) (.remote (c' : Thread nD τ) dst (.dma sS) hsc)}
    (hN : dst.view.dmaCredit = amt o) (hN' : amt o' = amt o)
    (q : PosShare TreeShare) (fs : Buf (Elt F) (src.view.loc (c : Thread nD τ))) (fd : Buf (Elt F) (dst.view.loc (c' : Thread nD τ)))
    {O₀ : CellTallies nD τ sig Unit} (O : CellTallies nD τ sig Unit) (hO : O₀ = O + tallyAt (cell c' o') () (amt o))
    (hpay : held src c q fs ⊢ landing P G c o)
    (hpay' : held dst c' fullShare (dst.view.write (Elt F) fd (src.view.read (Elt F) fs) Finset.univ) ⊢ landing P G c' o')
    {k : PUnit → Code F} {Q : PUnit → sProp 𝕄} :
    iprop(facts P G κ ∗ paying c o ∗ paying c' o' ∗ held src c q fs ∗ held dst c' fullShare fd ∗ owing c O₀)
      ⊢ iprop(((promised c o ∗ owing c O) -∗ run c (k ⟨⟩) Q)
        -∗ run c (.op (.enqueueDma src (.remote (c' : Thread nD τ) dst (.dma sS) hsc) (.dma sem) hsrc hdst hsem) k) Q) := by
  have hd : false ∈ (Rd P G).duties ((c : Thread nD τ), .dma sS) 0 := by
    rw [← hs, duties_own]; exact Finset.mem_singleton_self _
  have ha : (Rd P G).amount ((c : Thread nD τ), .dma sS) 0 false = amt o := by rw [← hs]; exact amount_own P G c o false
  have hp : (Rd P G).payload ((c : Thread nD τ), .dma sS) 0 false = landing P G c o := by rw [← hs]; exact payload_own P G c o false
  have hd' : false ∈ (Rd P G).duties ((c' : Thread nD τ), .dma sem) 0 := by
    rw [← hs', duties_own]; exact Finset.mem_singleton_self _
  have ha' : (Rd P G).amount ((c' : Thread nD τ), .dma sem) 0 false = amt o := by
    rw [← hs', ← hN']; exact amount_own P G c' o' false
  have hp' : (Rd P G).payload ((c' : Thread nD τ), .dma sem) 0 false = landing P G c' o' := by rw [← hs']; exact payload_own P G c' o' false
  have hc : cell c o = ((c : Thread nD τ), .dma sS) := congrArg _ hs
  have hc' : cell c' o' = ((c' : Thread nD τ), .dma sem) := congrArg _ hs'
  rw [hc'] at hO
  unfold facts paying promised owing
  iintro ⟨⟨#HI, -⟩, ⟨Ht, #Hr⟩, ⟨Ht', #Hr'⟩, Hs, Hd, ⟨%W, HO⟩⟩ Hk
  iapply (Rounds.wp_send_pointsTo 𝒱₀ ER (Rd P G) (c : Thread nD τ) none (c' := (c' : Thread nD τ)) (src := src) (dst := dst)
      (sS := .dma sS) (sem := .dma sem) (q := q) (fs := fs) (κ₁ := κ (cell c o)) (κ₂ := κ (cell c' o'))
      (r₁ := 0) (r₂ := 0) (d₁ := false) (d₂ := false) (fd := fd) hd hd' () () (amt o) hN ha ha' O hO (W := W)
      (hpay.trans (Entails.of_eq hp.symm)) (hpay'.trans (Entails.of_eq hp'.symm))) $$ [Ht Ht' Hs Hd HO]
  · rw [← hc, ← hc']
    isplitr; · iapply (inv_own P G κ c o); iexact HI
    isplitr; · iapply (inv_own P G κ c' o'); iexact HI
    isplitl [Hs]; · iexact Hs
    isplitl [Hd]; · iexact Hd
    isplitl [HO]; · iexact HO
    isplitl [Ht]; · iexact Ht
    isplitr; · iexact Hr
    isplitl [Ht']; · iexact Ht'
    iexact Hr'
  rw [← hc]
  iintro ⟨Hc, HO⟩
  iapply Hk
  isplitl [Hc]; · iexact Hc
  iexists W; iexact HO

/-! ## The loop -/

/-- The chunks from number `t` on, in order. -/
def chunksAfter (f : Fin 8 → Code F → Code F) (rest : Code F) (t : ℕ) : Code F :=
  ((List.finRange 8).drop t).foldr f rest

theorem chunksAfter_step (f : Fin 8 → Code F → Code F) (rest : Code F) (k : Fin 8) :
    chunksAfter f rest k = f k (chunksAfter f rest (k + 1)) := by
  unfold chunksAfter
  rw [List.drop_eq_getElem_cons (by simp), List.foldr_cons]
  simp

theorem bigSep_step (k : Fin 8) (A : Fin 8 → sProp 𝕄) :
    bigSep (chunksFrom k) A = iprop(A k ∗ bigSep (chunksFrom (k + 1)) A) := by
  rw [chunksFrom_step, bigSep_insert (notMem_chunksFrom k)]; rfl

/-- A loop over the chunks, given one step: it uses `A k`, leaves `B k`, and takes `S k` to `S (k + 1)`. -/
theorem each_chunk {R : sProp 𝕄} [BI.Persistent R] {f : Fin 8 → Code F → Code F} {rest : Code F} {Q : PUnit → sProp 𝕄}
    (A B : Fin 8 → sProp 𝕄) (S : ℕ → sProp 𝕄)
    (step : ∀ k rest, iprop(R ∗ A k ∗ S k ∗ ((B k ∗ S (k + 1)) -∗ run c rest Q)) ⊢ run c (f k rest) Q) :
    iprop(R ∗ bigSep Finset.univ A ∗ S 0) ⊢ iprop(((bigSep Finset.univ B ∗ S 8) -∗ run c rest Q) -∗ run c (eachChunk f rest) Q) := by
  have h : ∀ n ≤ 8, iprop(R ∗ bigSep (chunksFrom n) A ∗ S n ∗ ((bigSep (chunksFrom n) B ∗ S 8) -∗ run c rest Q))
      ⊢ run c (chunksAfter f rest n) Q := by
    intro n hn
    induction hn using Nat.decreasingInduction with
    | self =>
      rw [chunksFrom_eight, bigSep_empty, bigSep_empty]
      show _ ⊢ run c rest Q
      iintro ⟨-, -, HS, Hk⟩
      iapply Hk
      isplitr; · iempintro
      iexact HS
    | of_succ n hn ih =>
      have e := chunksAfter_step f rest ⟨n, hn⟩
      have eA := bigSep_step ⟨n, hn⟩ A
      have eB := bigSep_step ⟨n, hn⟩ B
      dsimp only at e eA eB
      rw [e, eA, eB]
      iintro ⟨#HR, ⟨HA, Has⟩, HS, Hk⟩
      iapply (step ⟨n, hn⟩ (chunksAfter f rest (n + 1)))
      isplitr; · iexact HR
      isplitl [HA]; · iexact HA
      isplitl [HS]; · iexact HS
      iintro ⟨HB, HS⟩
      iapply ih
      isplitr; · iexact HR
      isplitl [Has]; · iexact Has
      isplitl [HS]; · iexact HS
      iintro ⟨HBs, HS⟩
      iapply Hk
      isplitr [HS]
      · isplitl [HB] <;> iassumption
      iexact HS
  have h0 := h 0 (by decide)
  rw [chunksFrom_zero] at h0
  iintro ⟨#HR, HA, HS⟩ Hk
  iapply h0
  isplitr; · iexact HR
  isplitl [HA]; · iexact HA
  isplitl [HS] <;> iassumption

/-! ## Loads and stores -/

theorem load_chunk {e : EltTy} (m : Memref sig .tc .vmem S512x1024 e) (j : Fin 8) (q : PosShare TreeShare)
    (f : Buf (Elt F) ((chunk m j).view.loc (c : Thread nD τ))) {hl : m.view.LoadsAt (rows j).toLoadRect}
    {k : Vec F S64x1024 e → Code F} {Q : PUnit → sProp 𝕄} :
    (held (chunk m j) c q f : sProp 𝕄) ⊢ iprop((held (chunk m j) c q f -∗ run c (k ((chunk m j).view.read (Elt F) f)) Q)
      -∗ run c (.op (.load m (rows j).toLoadRect hl) k) Q) :=
  wp_load_rect 𝒱₀ (c : Thread nD τ) none Set.univ (m := m) (r := rows j) (S := (chunk m j).view.set) subset_rfl

theorem store_chunk {e : EltTy} (m : Memref sig .tc .vmem S512x1024 e) (j : Fin 8)
    (f : Buf (Elt F) ((chunk m j).view.loc (c : Thread nD τ))) (w : Vec F S64x1024 e)
    {hx : (m.access (rows j)).Stores (Finset.univ : Finset (rows j).shape.Idx)}
    {hm : (Finset.univ : Finset (rows j).shape.Idx) = Finset.univ ∨ ∀ a, (rows j).stride a = 1}
    {k : PUnit → Code F} {Q : PUnit → sProp 𝕄} :
    (held (chunk m j) c fullShare f : sProp 𝕄)
      ⊢ iprop((held (chunk m j) c fullShare ((chunk m j).view.write (Elt F) f w Finset.univ) -∗ run c (k ⟨⟩) Q)
      -∗ run c (.op (.store m (rows j) w Finset.univ hx hm) k) Q) :=
  wp_store 𝒱₀ (c : Thread nD τ) none Set.univ (m := m) (r := rows j) (Mk := Finset.univ) (S := (chunk m j).view.set) subset_rfl

theorem load_part {s : Shape} {e : EltTy} (m : Memref sig .tc .vmem s e) (r : Rect s) (q : PosShare TreeShare)
    (f : Buf (Elt F) (m.view.loc (c : Thread nD τ))) {hl : m.view.LoadsAt r.toLoadRect}
    {k : Vec F r.shape e → Code F} {Q : PUnit → sProp 𝕄} :
    (held m c q f : sProp 𝕄) ⊢ iprop((held m c q f -∗ run c (k ((m.access r).read (Elt F) f)) Q)
      -∗ run c (.op (.load m r.toLoadRect hl) k) Q) :=
  wp_load_rect 𝒱₀ (c : Thread nD τ) none Set.univ (m := m) (r := r) (S := m.view.set) (View.set_slice_subset m.view r)

theorem store_part {s : Shape} {e : EltTy} (m : Memref sig .tc .vmem s e) (r : Rect s)
    (f : Buf (Elt F) (m.view.loc (c : Thread nD τ))) (w : Vec F r.shape e)
    {hx : (m.access r).Stores (Finset.univ : Finset r.shape.Idx)}
    {hm : (Finset.univ : Finset r.shape.Idx) = Finset.univ ∨ ∀ a, r.stride a = 1}
    {k : PUnit → Code F} {Q : PUnit → sProp 𝕄} :
    (held m c fullShare f : sProp 𝕄) ⊢ iprop((held m c fullShare ((m.access r).write (Elt F) f w Finset.univ) -∗ run c (k ⟨⟩) Q)
      -∗ run c (.op (.store m r w Finset.univ hx hm) k) Q) :=
  wp_store 𝒱₀ (c : Thread nD τ) none Set.univ (m := m) (r := r) (Mk := Finset.univ) (S := m.view.set) (View.set_slice_subset m.view r)

end Cert.KernelIdeal.Body

end
-- ==== Proof.Steps.lean ====
/- The body's steps, each at a symbolic device and, in a loop, at a symbolic chunk. -/
module

public import proofs.«01_k».proof.Proof.Rules

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

variable (P : Dev nD → Vec F S1x2048x1024 .f32) (G : Dev nD → Vec F S1x1024 .f32)
variable (κ : GSem nD τ sig → ℕ) (c : Dev nD)

/-- Elements written with what `g` reads hold `g`. -/
theorem held_write {sp : Space} {s : Shape} {e : EltTy} (m : Memref sig .tc sp s e)
    (f g : Buf (Elt F) (m.view.loc (c : Thread nD τ))) (w : s.Idx → Elt F e) (h : m.view.read (Elt F) g = w) :
    (held m c fullShare (m.view.write (Elt F) f w Finset.univ) : sProp 𝕄) = held m c fullShare g :=
  pointsTo_congr (write_agrees m.view f g w (congrFun h))

/-- What a copy leaves, cell by cell. -/
theorem landing_in (k : Fin 8) : (landing P G c (oIn k) : sProp 𝕄)
    = iprop(held (chunk psrcM k) c fullShare (sent P c) ∗ held (peerRows c k) c (dealt (k.castLE (by decide))) (P c)) := rfl
theorem landing_got (k : Fin 8) : (landing P G c (oGot k) : sProp 𝕄)
    = iprop(held (chunk recvxM k) c fullShare.left (gotX P c) ∗ held (chunk recvxM k) c fullShare.right (gotX P c)) :=
  Entails.antisymm (pointsTo_share (PosShare.mem_left_op_right fullShare)).1 (pointsTo_share (PosShare.mem_left_op_right fullShare)).2
theorem landing_gotFwd (k : Fin 8) : (landing P G c (oGotFwd k) : sProp 𝕄) = held (chunk recvyM k) c fullShare (gotY P c) := rfl
theorem landing_scale : (landing P G c oScale : sProp 𝕄)
    = iprop(held gvM c fullShare (G c) ∗ held gM c fullShare (G c)) := rfl

/-! ## Copying in -/

theorem pay_in (k : Fin 8) (f : Buf (Elt F) ((chunk psrcM k).view.loc (c : Thread nD τ))) :
    (iprop(held (chunk psrcM k) c fullShare ((chunk psrcM k).view.write (Elt F) f ((peerRows c k).view.read (Elt F) (P c)) Finset.univ)
      ∗ held (peerRows c k) c (dealt (k.castLE (by decide))) (P c)) : sProp 𝕄) ⊢ landing P G c (oIn k) := by
  rw [held_write c (chunk psrcM k) f (sent P c) _ ((read_psrc k _).trans (read_peerRows P c k).symm)]
  exact Entails.refl _

theorem pay_kept (f : Buf (Elt F) (lrowsM.view.loc (c : Thread nD τ))) :
    (iprop(held lrowsM c fullShare (lrowsM.view.write (Elt F) f ((ownRows c).view.read (Elt F) (P c)) Finset.univ)
      ∗ held (ownRows c) c (dealt 8) (P c)) : sProp 𝕄) ⊢ landing P G c oKept := by
  rw [held_write c lrowsM f (kept P c) _ (read_ownRows P c).symm]
  exact Entails.refl _

theorem pay_scale (f : Buf (Elt F) (gvM.view.loc (c : Thread nD τ))) :
    (iprop(held gvM c fullShare (gvM.view.write (Elt F) f (gM.view.read (Elt F) (G c)) Finset.univ)
      ∗ held gM c fullShare (G c)) : sProp 𝕄) ⊢ landing P G c oScale := by
  rw [held_write c gvM f (G c) (gM.view.read (Elt F) (G c)) rfl]
  exact Entails.refl _

theorem copyIn_step (k : Fin 8) (rest : Code F) (Q : PUnit → sProp 𝕄) :
    iprop(facts P G κ ∗ (paying c (oIn k) ∗ held (peerRows c k) c (dealt (k.castLE (by decide))) (P c)
        ∗ ∃ f, held (chunk psrcM k) c fullShare f) ∗ emp ∗ ((promised c (oIn k) ∗ emp) -∗ run c rest Q))
      ⊢ run c (copyIn c k rest) Q := by
  unfold copyIn
  iintro ⟨#HF, ⟨Hp, Hs, ⟨%f, Hd⟩⟩, -, Hk⟩
  have hs : osem (oIn k) = .dma (lsem (k.castLE (by decide))) := rfl
  have hN : (chunk psrcM k).view.dmaCredit = amt (oIn k) := rfl
  iapply (copy_own P G κ c (oIn k) (src := peerRows c k) (dst := chunk psrcM k) hs hN (dealt (k.castLE (by decide))) (P c) f
    (pay_in P G c k f)) $$ [Hp Hs Hd]
  · isplitr; · iexact HF
    isplitl [Hp]; · iexact Hp
    isplitl [Hs] <;> iassumption
  iintro Hc
  iapply Hk
  isplitl [Hc]; · iexact Hc
  iempintro

theorem copyOwn_step (rest : Code F) (Q : PUnit → sProp 𝕄) :
    iprop(facts P G κ ∗ (paying c oKept ∗ held (ownRows c) c (dealt 8) (P c) ∗ ∃ f, held lrowsM c fullShare f)
        ∗ (paying c oScale ∗ held gM c fullShare (G c) ∗ ∃ f, held gvM c fullShare f)
        ∗ ((promised c oKept ∗ promised c oScale) -∗ run c rest Q))
      ⊢ run c (copyOwn c rest) Q := by
  unfold copyOwn
  iintro ⟨#HF, ⟨Hp, Hs, ⟨%f, Hd⟩⟩, ⟨Hp', Hs', ⟨%f', Hd'⟩⟩, Hk⟩
  have hs : osem oKept = .dma (lsem 8) := rfl
  have hN : lrowsM.view.dmaCredit = amt oKept := rfl
  have hs' : osem oScale = .dma (lsem 9) := rfl
  have hN' : gvM.view.dmaCredit = amt oScale := rfl
  iapply (copy_own P G κ c oKept (src := ownRows c) (dst := lrowsM) hs hN (dealt 8) (P c) f (pay_kept P G c f)) $$ [Hp Hs Hd]
  · isplitr; · iexact HF
    isplitl [Hp]; · iexact Hp
    isplitl [Hs] <;> iassumption
  iintro Hc
  iapply (copy_own P G κ c oScale (src := gM) (dst := gvM) hs' hN' fullShare (G c) f' (pay_scale P G c f')) $$ [Hp' Hs' Hd']
  · isplitr; · iexact HF
    isplitl [Hp']; · iexact Hp'
    isplitl [Hs'] <;> iassumption
  iintro Hc'
  iapply Hk
  isplitl [Hc] <;> iassumption

/-! ## Meeting the neighbours -/

/-- The right to signal a neighbour, and the buffers handed to it. -/
def signalling : sProp 𝕄 :=
  iprop((dutyTok ER (barCell (xp c)) 0 false ∗ dutyTok ER (barCell (yp c)) 0 true)
    ∗ (bigSep Finset.univ fun k => iprop((∃ f, held (chunk recvxM k) c fullShare f) ∗ reached ER (cell c (oGot k)) 0))
    ∗ bigSep Finset.univ fun k => iprop((∃ f, held (chunk recvyM k) c fullShare f) ∗ reached ER (cell c (oGotFwd k)) 0))

theorem meet_step (rest : Code F) (Q : PUnit → sProp 𝕄) :
    iprop(facts P G κ ∗ signalling c ∗ (atPos ER (barCell c) 0 ∅ 0 ∗ cred (tallyAt (barCell c) () 2)) ∗ owing c (oweAll c)
        ∗ ((atPos ER (barCell c) 1 ∅ 0 ∗ signalX c ∗ signalY c ∗ owing c (owe c 0 0)) -∗ run c rest Q))
      ⊢ run c (meet c rest) Q := by
  unfold meet
  rw [meetX_eq, meetY_eq]
  unfold signalling facts owing
  iintro ⟨⟨#HI, #Hlev⟩, ⟨⟨Htx, Hty⟩, Hx, Hy⟩, ⟨Hat, Hc⟩, ⟨%W, HO⟩, Hk⟩
  iapply (Rounds.wp_signal 𝒱₀ ER (Rd P G) (c : Thread nD τ) none (dst := (xp c : Thread nD τ)) (sem := barS) (r := 0) (d := false)
      (κ := κ (barCell (xp c))) (by rw [duties_bar]; exact Finset.mem_univ _) (amount_bar P G (xp c) false) ()
      (owe c 0 0 + tallyAt (barCell (yp c)) () 1) rfl (W := W)) $$ [HO Htx Hx]
  · isplitr; · iapply (inv_bar P G κ (xp c)); iexact HI
    isplitl [HO]; · iexact HO
    isplitl [Htx]; · iexact Htx
    isplitl [Hx]
    · rw [payload_bar, if_neg Bool.false_ne_true]; unfold signalX; rw [xp_xp]; iexact Hx
    · iapply (reached_bar P G κ (xp c)); iexact HI
  iintro HO
  iapply (Rounds.wp_signal 𝒱₀ ER (Rd P G) (c : Thread nD τ) none (dst := (yp c : Thread nD τ)) (sem := barS) (r := 0) (d := true)
      (κ := κ (barCell (yp c))) (by rw [duties_bar]; exact Finset.mem_univ _) (amount_bar P G (yp c) true) ()
      (owe c 0 0) rfl (W := W)) $$ [HO Hty Hy]
  · isplitr; · iapply (inv_bar P G κ (yp c)); iexact HI
    isplitl [HO]; · iexact HO
    isplitl [Hty]; · iexact Hty
    isplitl [Hy]
    · rw [payload_bar, if_pos rfl]; unfold signalY; rw [yp_yp]; iexact Hy
    · iapply (reached_bar P G κ (yp c)); iexact HI
  iintro HO
  iapply (Rounds.wp_wait_rest_token 𝒱₀ ER (Rd P G) (c : Thread nD τ) none (κ := κ (barCell c))
      (wpE_semWait_eq 𝒱₀ (c : Thread nD τ) none Set.univ) (Set.mem_univ _) () (O := owe c 0 0) (W := W) (R := 0) (m := 0) (T := ∅)
      ((Nat.zero_add 2).trans (expect_bar P G c).symm)) $$ [Hc HO Hat]
  · isplitr; · iapply (inv_bar P G κ c); iexact HI
    isplitl [Hc]; · iexact Hc
    isplitl [HO]; · iexact HO
    isplitr; · iapply (mayWait_owe c (.reg barS) 0 0 1 (lv_bar c).le (.inl (by decide))); iexact Hlev
    iexact Hat
  iintro ⟨HO, Hat, -, Hpay⟩
  ihave Hp := (Entails.of_eq (rest_bar P G c)) $$ Hpay
  icases Hp with ⟨Hy, Hx⟩
  iapply Hk
  isplitl [Hat]; · iexact Hat
  isplitl [Hx]; · iexact Hx
  isplitl [Hy]; · iexact Hy
  iexists _; iexact HO

/-! ## Sending -/

theorem pay_got (k : Fin 8) (f : Buf (Elt F) ((chunk recvxM k).view.loc (xp c : Thread nD τ))) :
    (held (chunk recvxM k) (xp c) fullShare ((chunk recvxM k).view.write (Elt F) f
      ((chunk sendM k).view.read (Elt F) (packed P c)) Finset.univ) : sProp 𝕄) ⊢ landing P G (xp c) (oGot k) := by
  rw [held_write (xp c) (chunk recvxM k) f (gotX P (xp c)) _ ((read_recvx k _).trans
      ((congrArg (fun d => part (packed P d) k) (xp_xp c)).trans (read_send k _).symm))]
  exact Entails.refl _

theorem toNeighbour_step (k : Fin 8) (rest : Code F) (Q : PUnit → sProp 𝕄) :
    iprop(facts P G κ ∗ held (chunk sendM k) c fullShare (packed P c)
        ∗ (∃ f, held (chunk recvxM k) (xp c) fullShare f) ∗ (paying c (oSent k) ∗ paying (xp c) (oGot k))
        ∗ owing c (owe c k 0) ∗ ((promised c (oSent k) ∗ owing c (owe c (k + 1) 0)) -∗ run c rest Q))
      ⊢ run c (toNeighbour (xp c) k rest) Q := by
  unfold toNeighbour
  iintro ⟨#HF, Hd, ⟨%f, Hd'⟩, ⟨Hps, Hpg⟩, HO, Hk⟩
  have hs : osem (oSent k) = .dma (sem8 cc0_scratch7 k) := rfl
  have hs' : osem (oGot k) = .dma (sem8 cc0_scratch8 k) := rfl
  have hN : (chunk recvxM k).view.dmaCredit = amt (oSent k) := rfl
  have hN' : amt (oGot k) = amt (oSent k) := rfl
  have hpay : (held (chunk sendM k) c fullShare (packed P c) : sProp 𝕄) ⊢ landing P G c (oSent k) := Entails.refl _
  iapply (send_own P G κ c (xp c) (oSent k) (oGot k) (src := chunk sendM k) (dst := chunk recvxM k) hs hs' hN hN' fullShare
    (packed P c) f (owe c (k + 1) 0) (owe_send c k 0) hpay (pay_got P G c k f)) $$ [Hps Hpg Hd Hd' HO]
  · isplitr; · iexact HF
    isplitl [Hps]; · iexact Hps
    isplitl [Hpg]; · iexact Hpg
    isplitl [Hd]; · iexact Hd
    isplitl [Hd'] <;> iassumption
  iexact Hk

theorem send_written (k : Fin 8) (f : Buf (Elt F) ((chunk sendM k).view.loc (c : Thread nD τ))) :
    (held (chunk sendM k) c fullShare ((chunk sendM k).view.write (Elt F) f
      (narrow ((chunk psrcM k).view.read (Elt F) (sent P c))) Finset.univ) : sProp 𝕄)
      = held (chunk sendM k) c fullShare (packed P c) :=
  held_write c (chunk sendM k) f (packed P c) _
    ((read_send k _).trans ((narrow_part P c k).symm.trans (congrArg narrow (read_psrc k (sent P c)).symm)))

theorem sendOut_step (k : Fin 8) (rest : Code F) (Q : PUnit → sProp 𝕄) :
    iprop(facts P G κ
        ∗ ((waiting c (oIn k) ∗ promised c (oIn k)) ∗ (∃ f, held (chunk sendM k) c fullShare f)
          ∗ (∃ f, held (chunk recvxM k) (xp c) fullShare f) ∗ paying c (oSent k) ∗ paying (xp c) (oGot k))
        ∗ owing c (owe c k 0)
        ∗ (((spent c (oIn k) ∗ landing P G c (oIn k) ∗ promised c (oSent k)) ∗ owing c (owe c (k + 1) 0)) -∗ run c rest Q))
      ⊢ run c (sendOut c k rest) Q := by
  unfold sendOut
  rw [toX_eq c k]
  iintro ⟨#HF, ⟨⟨Hw, Hpr⟩, ⟨%f, Hd⟩, Hd', Hp⟩, HO, Hk⟩
  have hs : osem (oIn k) = .dma (lsem (k.castLE (by decide))) := rfl
  have hN : (chunk psrcM k).view.dmaCredit = amt (oIn k) := rfl
  iapply (wait_own P G κ c (oIn k) (src := peerRows c k) (dst := chunk psrcM k) hs hN
    (mayWait_owe c _ k 0 0 (lv_own c (oIn k)).le (.inl (by decide)))) $$ [Hw Hpr HO]
  · isplitr; · iexact HF
    isplitl [Hw]; · iexact Hw
    isplitl [Hpr] <;> iassumption
  iintro ⟨HO, Hsp, Hl⟩
  ihave Hl := (Entails.of_eq (landing_in P G c k)) $$ Hl
  icases Hl with ⟨Hs, Hrows⟩
  iapply (load_chunk c psrcM k fullShare (sent P c)) $$ Hs; iintro Hs
  iapply (load_chunk c sendM k fullShare f) $$ Hd; iintro Hd
  iapply (store_chunk c sendM k f (narrow ((chunk psrcM k).view.read (Elt F) (sent P c)))) $$ Hd; iintro Hd
  ihave Hd := (Entails.of_eq (send_written P c k f)) $$ Hd
  iapply (toNeighbour_step P G κ c k rest Q)
  isplitr; · iexact HF
  isplitl [Hd]; · iexact Hd
  isplitl [Hd']; · iexact Hd'
  isplitl [Hp]; · iexact Hp
  isplitl [HO]; · iexact HO
  iintro ⟨Hpr, HO⟩
  iapply Hk
  isplitr [HO]
  · isplitl [Hsp]; · iexact Hsp
    isplitr [Hpr]
    · iapply (Entails.of_eq (landing_in P G c k).symm)
      isplitl [Hs] <;> iassumption
    iexact Hpr
  iexact HO

/-! ## The rows kept and the scale -/

theorem awaitOwn_step (rest : Vec F S1x1024 .f32 → Code F) (Q : PUnit → sProp 𝕄) :
    iprop(facts P G κ ∗ (waiting c oKept ∗ promised c oKept) ∗ (waiting c oScale ∗ promised c oScale) ∗ owing c (owe c 8 0)
        ∗ ((spent c oKept ∗ spent c oScale ∗ landing P G c oKept ∗ landing P G c oScale ∗ owing c (owe c 8 0))
            -∗ run c (rest (G c)) Q))
      ⊢ run c (awaitOwn c rest) Q := by
  unfold awaitOwn
  have hs : osem oKept = .dma (lsem 8) := rfl
  have hN : lrowsM.view.dmaCredit = amt oKept := rfl
  have hs' : osem oScale = .dma (lsem 9) := rfl
  have hN' : gvM.view.dmaCredit = amt oScale := rfl
  iintro ⟨#HF, ⟨Hw, Hpr⟩, ⟨Hw', Hpr'⟩, HO, Hk⟩
  iapply (wait_own P G κ c oKept (src := ownRows c) (dst := lrowsM) hs hN
    (mayWait_owe c _ 8 0 0 (lv_own c oKept).le (.inl (by decide)))) $$ [Hw Hpr HO]
  · isplitr; · iexact HF
    isplitl [Hw]; · iexact Hw
    isplitl [Hpr] <;> iassumption
  iintro ⟨HO, Hsp, Hl⟩
  iapply (wait_own P G κ c oScale (src := gM) (dst := gvM) hs' hN'
    (mayWait_owe c _ 8 0 0 (lv_own c oScale).le (.inl (by decide)))) $$ [Hw' Hpr' HO]
  · isplitr; · iexact HF
    isplitl [Hw']; · iexact Hw'
    isplitl [Hpr'] <;> iassumption
  iintro ⟨HO, Hsp', Hl'⟩
  ihave Hl' := (Entails.of_eq (landing_scale P G c)) $$ Hl'
  icases Hl' with ⟨Hg, Hm⟩
  iapply (load_part c gvM gRect fullShare (G c)) $$ Hg; iintro Hg
  rw [read_gv]
  iapply Hk
  isplitl [Hsp]; · iexact Hsp
  isplitl [Hsp']; · iexact Hsp'
  isplitl [Hl]; · iexact Hl
  isplitr [HO]
  · iapply (Entails.of_eq (landing_scale P G c).symm)
    isplitl [Hg] <;> iassumption
  iexact HO

/-! ## The result so far -/

/-- Element `i` of the result is written once the near chunks below `t` and the far ones below `u` are. -/
def Written (t u : ℕ) (i : S1024x1024.Idx) : Prop :=
  (∃ k : Fin 8, k.val < t ∧ i ∈ (outM.access (nearRows c k)).set) ∨ ∃ k : Fin 8, k.val < u ∧ i ∈ (outM.access (farRows c k)).set

/-- The result buffer, right where it is written. -/
def resultUpTo (t u : ℕ) : sProp 𝕄 :=
  iprop(∃ f : Vec F S1024x1024 .bf16, ⌜∀ i, Written c t u i → f i = result P G c i⌝ ∗ held outM c fullShare f)

/-- A store of part of the result adds that part. -/
theorem stored {t u t' u' : ℕ} (r : Rect S1024x1024) (f : Vec F S1024x1024 .bf16) (w : Vec F r.shape .bf16)
    (hw : (outM.access r).read (Elt F) (result P G c) = w) (hr : ∀ i, Written c t' u' i → Written c t u i ∨ i ∈ (outM.access r).set)
    (h : ∀ i, Written c t u i → f i = result P G c i) (i : S1024x1024.Idx) (hi : Written c t' u' i) :
    (outM.access r).write (Elt F) f w Finset.univ i = result P G c i := by
  by_cases hm : i ∈ (outM.access r).set
  · exact write_agrees (outM.access r) f (result P G c) w (congrFun hw) i hm
  · exact (View.write_of_not_mem (v := outM.access r) f w Finset.univ hm).trans (h i ((hr i hi).resolve_right hm))

theorem written_near (k : Fin 8) (u : ℕ) (i : S1024x1024.Idx) (h : Written c (k + 1) u i) :
    Written c k u i ∨ i ∈ (outM.access (nearRows c k)).set := by
  rcases h with ⟨k', hk, hi⟩ | h
  · rcases Nat.lt_succ_iff_lt_or_eq.mp hk with hk | hk
    · exact .inl (.inl ⟨k', hk, hi⟩)
    · exact .inr (Fin.ext hk ▸ hi)
  · exact .inl (.inr h)
theorem written_far (k : Fin 8) (t : ℕ) (i : S1024x1024.Idx) (h : Written c t (k + 1) i) :
    Written c t k i ∨ i ∈ (outM.access (farRows c k)).set := by
  rcases h with h | ⟨k', hk, hi⟩
  · exact .inl (.inl h)
  · rcases Nat.lt_succ_iff_lt_or_eq.mp hk with hk | hk
    · exact .inl (.inr ⟨k', hk, hi⟩)
    · exact .inr (Fin.ext hk ▸ hi)

/-! ## Forwarding -/

theorem pay_gotFwd (k : Fin 8) (f : Buf (Elt F) ((chunk recvyM k).view.loc (yp c : Thread nD τ))) :
    (held (chunk recvyM k) (yp c) fullShare ((chunk recvyM k).view.write (Elt F) f
      ((chunk recvxM k).view.read (Elt F) (gotX P c)) Finset.univ) : sProp 𝕄) ⊢ landing P G (yp c) (oGotFwd k) := by
  rw [held_write (yp c) (chunk recvyM k) f (gotY P (yp c)) _ ((read_recvy k _).trans
      ((congrArg (fun d => part (gotX P d) k) (yp_yp c)).trans (read_recvx k _).symm))]
  exact Entails.refl _

theorem passOn_step (k : Fin 8) (rest : Code F) (Q : PUnit → sProp 𝕄) :
    iprop(facts P G κ ∗ held (chunk recvxM k) c fullShare.left (gotX P c)
        ∗ (∃ f, held (chunk recvyM k) (yp c) fullShare f) ∗ (paying c (oFwd k) ∗ paying (yp c) (oGotFwd k))
        ∗ owing c (owe c 8 k) ∗ ((promised c (oFwd k) ∗ owing c (owe c 8 (k + 1))) -∗ run c rest Q))
      ⊢ run c (passOn (yp c) k rest) Q := by
  unfold passOn
  iintro ⟨#HF, Hd, ⟨%f, Hd'⟩, ⟨Hps, Hpg⟩, HO, Hk⟩
  have hs : osem (oFwd k) = .dma (sem8 cc0_scratch9 k) := rfl
  have hs' : osem (oGotFwd k) = .dma (sem8 cc0_scratch10 k) := rfl
  have hN : (chunk recvyM k).view.dmaCredit = amt (oFwd k) := rfl
  have hN' : amt (oGotFwd k) = amt (oFwd k) := rfl
  have hpay : (held (chunk recvxM k) c fullShare.left (gotX P c) : sProp 𝕄) ⊢ landing P G c (oFwd k) := Entails.refl _
  iapply (send_own P G κ c (yp c) (oFwd k) (oGotFwd k) (src := chunk recvxM k) (dst := chunk recvyM k) hs hs' hN hN' fullShare.left
    (gotX P c) f (owe c 8 (k + 1)) (owe_forward c 8 k) hpay (pay_gotFwd P G c k f)) $$ [Hps Hpg Hd Hd' HO]
  · isplitr; · iexact HF
    isplitl [Hps]; · iexact Hps
    isplitl [Hpg]; · iexact Hpg
    isplitl [Hd]; · iexact Hd
    isplitl [Hd'] <;> iassumption
  iexact Hk

theorem forward_step (k : Fin 8) (rest : Code F) (Q : PUnit → sProp 𝕄) :
    iprop(facts P G κ
        ∗ ((waiting c (oGot k) ∗ promised c (oGot k)) ∗ (∃ f, held (chunk recvyM k) (yp c) fullShare f)
          ∗ paying c (oFwd k) ∗ paying (yp c) (oGotFwd k))
        ∗ (owing c (owe c 8 k) ∗ held lrowsM c fullShare (kept P c) ∗ resultUpTo P G c k 0)
        ∗ (((spent c (oGot k) ∗ held (chunk recvxM k) c fullShare.right (gotX P c) ∗ promised c (oFwd k))
            ∗ owing c (owe c 8 (k + 1)) ∗ held lrowsM c fullShare (kept P c) ∗ resultUpTo P G c (k + 1) 0) -∗ run c rest Q))
      ⊢ run c (forward c (G c) k rest) Q := by
  unfold forward
  rw [toY_eq c k]
  iintro ⟨#HF, ⟨⟨Hw, Hpr⟩, Hd', Hp⟩, ⟨HO, Hrows, Hout⟩, Hk⟩
  have hs : osem (oGot k) = .dma (sem8 cc0_scratch8 k) := rfl
  have hN : (chunk recvxM k).view.dmaCredit = amt (oGot k) := rfl
  iapply (wait_own P G κ c (oGot k) (src := chunk sendM k) (dst := chunk recvxM k) hs hN
    (mayWait_owe c _ 8 k 2 (lv_own c (oGot k)).le (.inr ⟨by decide, rfl⟩))) $$ [Hw Hpr HO]
  · isplitr; · iexact HF
    isplitl [Hw]; · iexact Hw
    isplitl [Hpr] <;> iassumption
  iintro ⟨HO, Hsp, Hl⟩
  ihave Hl := (Entails.of_eq (landing_got P G c k)) $$ Hl
  icases Hl with ⟨Hleft, Hright⟩
  iapply (passOn_step P G κ c k _ Q)
  isplitr; · iexact HF
  isplitl [Hleft]; · iexact Hleft
  isplitl [Hd']; · iexact Hd'
  isplitl [Hp]; · iexact Hp
  isplitl [HO]; · iexact HO
  iintro ⟨Hpr, HO⟩
  unfold resultUpTo
  icases Hout with ⟨%f, %hf, Hout⟩
  iapply (load_chunk c recvxM k fullShare.right (gotX P c)) $$ Hright; iintro Hright
  iapply (load_part c lrowsM (nearRows c k) fullShare (kept P c)) $$ Hrows; iintro Hrows
  iapply (load_part c outM (nearRows c k) fullShare f) $$ Hout; iintro Hout
  rw [read_recvx k (gotX P c), read_near c k (kept P c), result_near P G c k]
  iapply (store_part c outM (nearRows c k) f (halfPart (result P G c) (near c) k)) $$ Hout; iintro Hout
  iapply Hk
  isplitl [Hsp Hright Hpr]
  · isplitl [Hsp]; · iexact Hsp
    isplitl [Hright] <;> iassumption
  isplitl [HO]; · iexact HO
  isplitl [Hrows]; · iexact Hrows
  iexists _
  isplitr
  · ipureintro; exact stored P G c (nearRows c k) f _ (read_out_near c k _) (written_near c k 0) hf
  · iexact Hout

theorem finish_step (k : Fin 8) (rest : Code F) (Q : PUnit → sProp 𝕄) :
    iprop(facts P G κ ∗ (waiting c (oGotFwd k) ∗ promised c (oGotFwd k))
        ∗ (owing c (owe c 8 8) ∗ held lrowsM c fullShare (kept P c) ∗ resultUpTo P G c 8 k)
        ∗ (((spent c (oGotFwd k) ∗ landing P G c (oGotFwd k))
            ∗ owing c (owe c 8 8) ∗ held lrowsM c fullShare (kept P c) ∗ resultUpTo P G c 8 (k + 1)) -∗ run c rest Q))
      ⊢ run c (finish c (G c) k rest) Q := by
  unfold finish
  iintro ⟨#HF, ⟨Hw, Hpr⟩, ⟨HO, Hrows, Hout⟩, Hk⟩
  have hs : osem (oGotFwd k) = .dma (sem8 cc0_scratch10 k) := rfl
  have hN : (chunk recvyM k).view.dmaCredit = amt (oGotFwd k) := rfl
  iapply (wait_own P G κ c (oGotFwd k) (src := chunk recvxM k) (dst := chunk recvyM k) hs hN (mayWait_done c _)) $$ [Hw Hpr HO]
  · isplitr; · iexact HF
    isplitl [Hw]; · iexact Hw
    isplitl [Hpr] <;> iassumption
  iintro ⟨HO, Hsp, Hl⟩
  ihave Hl := (Entails.of_eq (landing_gotFwd P G c k)) $$ Hl
  unfold resultUpTo
  icases Hout with ⟨%f, %hf, Hout⟩
  iapply (load_chunk c recvyM k fullShare (gotY P c)) $$ Hl; iintro Hl
  iapply (load_part c lrowsM (farRows c k) fullShare (kept P c)) $$ Hrows; iintro Hrows
  iapply (load_part c outM (farRows c k) fullShare f) $$ Hout; iintro Hout
  rw [read_recvy k (gotY P c), read_far c k (kept P c), result_far P G c k]
  iapply (store_part c outM (farRows c k) f (halfPart (result P G c) (far c) k)) $$ Hout; iintro Hout
  iapply Hk
  isplitl [Hsp Hl]
  · isplitl [Hsp]; · iexact Hsp
    iapply (Entails.of_eq (landing_gotFwd P G c k).symm); iexact Hl
  isplitl [HO]; · iexact HO
  isplitl [Hrows]; · iexact Hrows
  iexists _
  isplitr
  · ipureintro; exact stored P G c (farRows c k) f _ (read_out_far c k _) (written_far c k 8) hf
  · iexact Hout

/-- Every element of the result is written in the end. -/
theorem result_whole : resultUpTo P G c 8 8 ⊢ (held outM c fullShare (result P G c) : sProp 𝕄) := by
  unfold resultUpTo
  iintro ⟨%f, %hf, H⟩
  have e : f = result P G c := funext fun i => hf i ((near_or_far c i).imp
    (fun ⟨k, h⟩ => ⟨k, k.isLt, h⟩) (fun ⟨k, h⟩ => ⟨k, k.isLt, h⟩))
  rw [e]
  iexact H

/-! ## The sends' ends -/

theorem settle_step (k : Fin 8) (rest : Code F) (Q : PUnit → sProp 𝕄) :
    iprop(facts P G κ ∗ ((waiting c (oSent k) ∗ promised c (oSent k)) ∗ waiting c (oFwd k) ∗ promised c (oFwd k))
        ∗ owing c (owe c 8 8)
        ∗ (((spent c (oSent k) ∗ spent c (oFwd k) ∗ landing P G c (oSent k) ∗ landing P G c (oFwd k)) ∗ owing c (owe c 8 8))
            -∗ run c rest Q))
      ⊢ run c (settle k rest) Q := by
  unfold settle
  iintro ⟨#HF, ⟨⟨Hw, Hpr⟩, ⟨Hw', Hpr'⟩⟩, HO, Hk⟩
  have hs : osem (oSent k) = .dma (sem8 cc0_scratch7 k) := rfl
  have hN : (chunk sendM k).view.dmaCredit = amt (oSent k) := rfl
  have hs' : osem (oFwd k) = .dma (sem8 cc0_scratch9 k) := rfl
  have hN' : (chunk recvxM k).view.dmaCredit = amt (oFwd k) := rfl
  iapply (wait_own P G κ c (oSent k) (src := chunk recvxM k) (dst := chunk sendM k) hs hN (mayWait_done c _)) $$ [Hw Hpr HO]
  · isplitr; · iexact HF
    isplitl [Hw]; · iexact Hw
    isplitl [Hpr] <;> iassumption
  iintro ⟨HO, Hsp, Hl⟩
  iapply (wait_own P G κ c (oFwd k) (src := chunk recvyM k) (dst := chunk recvxM k) hs' hN' (mayWait_done c _)) $$ [Hw' Hpr' HO]
  · isplitr; · iexact HF
    isplitl [Hw']; · iexact Hw'
    isplitl [Hpr'] <;> iassumption
  iintro ⟨HO, Hsp', Hl'⟩
  iapply Hk
  isplitr [HO]
  · isplitl [Hsp]; · iexact Hsp
    isplitl [Hsp']; · iexact Hsp'
    isplitl [Hl] <;> iassumption
  iexact HO

end Cert.KernelIdeal.Body

end
-- ==== Proof.Buffers.lean ====
/- Splitting and joining: a chunked buffer into its chunks, the partial block into the rows its copies read, a family over the
   own cells into its parts. -/
module

public import proofs.«01_k».proof.Proof.Steps

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

/-! ## Chunks -/

section Chunks

variable {e : EltTy} (m : Memref sig .tc .vmem S512x1024 e) (c : Dev nD) (q : PosShare TreeShare)

theorem chunk_disjoint (k k' : Fin 8) (h : k ≠ k') : Disjoint (chunk m k).view.set (chunk m k').view.set := by
  show Disjoint (m.view.slice (rows k)).set (m.view.slice (rows k')).set
  rw [View.set_slice, View.set_slice]
  exact (Finset.disjoint_map _).mpr (rows_disjoint k k' h)

theorem chunk_union : Finset.univ.biUnion (fun k => (chunk m k).view.set) = m.view.set := by
  refine Finset.Subset.antisymm (Finset.biUnion_subset.mpr fun k _ => View.set_slice_subset m.view (rows k)) fun i hi => ?_
  obtain ⟨x, -, rfl⟩ := Finset.mem_map.mp hi
  obtain ⟨k, hk⟩ := rows_cover x
  refine Finset.mem_biUnion.mpr ⟨k, Finset.mem_univ k, ?_⟩
  show m.view.emb x ∈ (m.view.slice (rows k)).set
  rw [View.set_slice]
  exact Finset.mem_map_of_mem _ hk

/-- A chunked buffer is held chunk by chunk; -/
theorem held_chunks (f : Buf (Elt F) (m.view.loc (c : Thread nD τ))) :
    (held m c q f : sProp 𝕄) = bigSep Finset.univ fun k => held (chunk m k) c q f :=
  have hd : ∀ k ∈ (Finset.univ : Finset (Fin 8)), ∀ k' ∈ (Finset.univ : Finset (Fin 8)), k ≠ k' →
      Disjoint (chunk m k).view.set (chunk m k').view.set := fun k _ k' _ h => chunk_disjoint m k k' h
  (congrArg (fun S => (m.view.loc (c : Thread nD τ) ↦[S]{q} f : sProp 𝕄)) (chunk_union m).symm).trans
    (pointsTo_biUnion (ℓ := m.view.loc (c : Thread nD τ)) (q := q) (f := f) Finset.univ (fun k => (chunk m k).view.set) hd)

/-- at contents unknown, each chunk at contents unknown. -/
theorem some_chunks : (iprop(∃ f, held m c fullShare f) : sProp 𝕄)
    ⊢ bigSep Finset.univ fun k => iprop(∃ f, held (chunk m k) c fullShare f) := by
  iintro ⟨%f, H⟩
  ihave H := (Entails.of_eq (held_chunks m c fullShare f)) $$ H
  iapply (show (bigSep Finset.univ fun k => (held (chunk m k) c fullShare f : sProp 𝕄))
      ⊢ bigSep Finset.univ fun k => iprop(∃ f, held (chunk m k) c fullShare f) from
    bigSep_mono fun k _ => by show (_ : sProp 𝕄) ⊢ _; iintro H; iexists f; iexact H) $$ H

end Chunks

/-! ## The partial block -/

section Input

variable (P : Dev nD → Vec F S1x2048x1024 .f32) (c : Dev nD)

/-- What the copies leave of their shares. -/
def restRows : sProp 𝕄 :=
  iprop((bigSep Finset.univ fun k : Fin 8 => (pM).view.loc (c : Thread nD τ) ↦[(pM).view.set \ (peerRows c k).view.set]{dealt (k.castLE (by decide))} P c)
    ∗ (pM).view.loc (c : Thread nD τ) ↦[(pM).view.set \ (ownRows c).view.set]{dealt 8} P c)

theorem split_rows (q : PosShare TreeShare) (S : Finset (Idx ((pM).view.loc (c : Thread nD τ)))) (h : S ⊆ (pM).view.set) :
    (held pM c q (P c) : sProp 𝕄) = iprop(((pM).view.loc (c : Thread nD τ) ↦[S]{q} P c)
      ∗ (pM).view.loc (c : Thread nD τ) ↦[(pM).view.set \ S]{q} P c) :=
  Entails.antisymm (pointsTo_split_subset h).1 (pointsTo_split_subset h).2

theorem in_whole (S : Finset (Idx ((pM).view.loc (c : Thread nD τ)))) : S ⊆ (pM).view.set := fun i _ => by
  rw [show (pM).view.set = Finset.univ from View.set_whole _]; exact Finset.mem_univ i

theorem regroup (A B C D : sProp 𝕄) : iprop((A ∗ B) ∗ C ∗ D) = iprop(A ∗ C ∗ B ∗ D) :=
  Entails.antisymm
    (show iprop((A ∗ B) ∗ C ∗ D) ⊢ iprop(A ∗ C ∗ B ∗ D) from by
      iintro ⟨⟨H1, H2⟩, H3, H4⟩
      isplitl [H1]; · iexact H1
      isplitl [H3]; · iexact H3
      isplitl [H2] <;> iassumption)
    (show iprop(A ∗ C ∗ B ∗ D) ⊢ iprop((A ∗ B) ∗ C ∗ D) from by
      iintro ⟨H1, H3, H2, H4⟩
      isplitl [H1 H2]; · isplitl [H1] <;> iassumption
      isplitl [H3] <;> iassumption)

/-- The partial block is held as the rows of each copy, at that copy's share, and the rest. -/
theorem input_split : (held pM c fullShare (P c) : sProp 𝕄)
    = iprop((bigSep Finset.univ fun k : Fin 8 => held (peerRows c k) c (dealt (k.castLE (by decide))) (P c))
      ∗ held (ownRows c) c (dealt 8) (P c) ∗ restRows P c) := by
  have e : (held pM c fullShare (P c) : sProp 𝕄) = iprop((bigSep Finset.univ fun k : Fin 8 => held pM c (dealt (k.castLE (by decide))) (P c))
      ∗ held pM c (dealt 8) (P c)) := by
    refine (Transfers.pointsTo_deal (Finset.univ : Finset (Fin 9)) Finset.univ_nonempty fullShare).trans ?_
    refine (bigSep_univ_equiv (finSumFinEquiv (m := 8) (n := 1)) _).trans ((bigSep_univ_sum _).trans ?_)
    rw [bigSep_univ_of_subsingleton (0 : Fin 1)]
    rfl
  have ek : (bigSep Finset.univ fun k : Fin 8 => (held pM c (dealt (k.castLE (by decide))) (P c) : sProp 𝕄))
      = iprop((bigSep Finset.univ fun k : Fin 8 => held (peerRows c k) c (dealt (k.castLE (by decide))) (P c))
        ∗ bigSep Finset.univ fun k : Fin 8 =>
          (pM).view.loc (c : Thread nD τ) ↦[(pM).view.set \ (peerRows c k).view.set]{dealt (k.castLE (by decide))} P c) :=
    (bigSep_congr fun k _ => split_rows P c _ (peerRows c k).view.set (in_whole c _)).trans (bigSep_sep' _ _ _)
  rw [e, ek, split_rows P c (dealt 8) (ownRows c).view.set (in_whole c _)]
  unfold restRows
  exact regroup _ _ _ _

end Input

/-! ## Families over the own cells -/

theorem over_own (Φ : Own → sProp 𝕄) : bigSep Finset.univ Φ
    = iprop(((bigSep Finset.univ fun k => Φ (oIn k)) ∗ (bigSep Finset.univ fun k => Φ (oSent k)) ∗ (bigSep Finset.univ fun k => Φ (oGot k))
      ∗ (bigSep Finset.univ fun k => Φ (oFwd k)) ∗ bigSep Finset.univ fun k => Φ (oGotFwd k)) ∗ Φ oKept ∗ Φ oScale) := by
  refine (bigSep_univ_sum Φ).trans ?_
  rw [bigSep_univ_prod, bigSep_fin_two, show (Finset.univ : Finset (Fin 5)) = {0, 1, 2, 3, 4} from by decide, bigSep_insert (by decide),
    bigSep_insert (by decide), bigSep_insert (by decide), bigSep_insert (by decide), bigSep_singleton]
  rfl

end Cert.KernelIdeal.Body

end
-- ==== Proof.Whole.lean ====
/- The whole body at a symbolic device: loop by loop, then from the first copy to the return. -/
module

public import proofs.«01_k».proof.Proof.Buffers

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal.Gen

variable {F : FTy → Type} [FloatOps F]

local notation "𝕄" => MT nD τ sig Unit (Elt F) ℕ UU ℕ

/-- One proposition for every chunk. -/
abbrev each (Φ : Fin 8 → sProp 𝕄) : sProp 𝕄 := bigSep Finset.univ Φ

/-- The right to make the copy on a cell, once it is open. -/
abbrev token (c : Dev nD) (o : Own) : sProp 𝕄 := dutyTok ER (cell c o) 0 false
abbrev isOpen (c : Dev nD) (o : Own) : sProp 𝕄 := reached ER (cell c o) 0

theorem each_join {Φ Ψ : Fin 8 → sProp 𝕄} : iprop(each Φ ∗ each Ψ) ⊢ each fun k => iprop(Φ k ∗ Ψ k) :=
  Entails.of_eq (bigSep_sep' _ Φ Ψ).symm
theorem each_split {Φ Ψ : Fin 8 → sProp 𝕄} : (each fun k => iprop(Φ k ∗ Ψ k)) ⊢ iprop(each Φ ∗ each Ψ) :=
  Entails.of_eq (bigSep_sep' _ Φ Ψ)

theorem each_paying (c : Dev nD) (o : Fin 8 → Own) :
    iprop((each fun k => token c (o k)) ∗ each fun k => isOpen c (o k)) ⊢ (each fun k => paying c (o k) : sProp 𝕄) := by
  unfold paying
  exact each_join

variable (P : Dev nD → Vec F S1x2048x1024 .f32) (G : Dev nD → Vec F S1x1024 .f32)
variable (κ : GSem nD τ sig → ℕ) (c : Dev nD)

/-! ## The loops -/

abbrev peerShare (k : Fin 8) : sProp 𝕄 := held (peerRows c k) c (dealt (k.castLE (by decide))) (P c)

theorem copyIn_all (rest : Code F) (Q : PUnit → sProp 𝕄) :
    iprop(facts P G κ ∗ ((each fun k => paying c (oIn k)) ∗ (each fun k => peerShare P c k)
          ∗ each fun k => iprop(∃ f, held (chunk psrcM k) c fullShare f))
        ∗ ((each fun k => promised c (oIn k)) -∗ run c rest Q)) ⊢ run c (eachChunk (copyIn c) rest) Q := by
  iintro ⟨#HF, ⟨Hp, Hr, Hd⟩, Hk⟩
  iapply (each_chunk (R := facts P G κ) c
    (fun k => iprop(paying c (oIn k) ∗ peerShare P c k ∗ ∃ f, held (chunk psrcM k) c fullShare f))
    (fun k => promised c (oIn k)) (fun _ => iprop(emp)) (fun k rest => copyIn_step P G κ c k rest Q)) $$ [Hp Hr Hd]
  · isplitr; · iexact HF
    isplitl
    · iapply each_join; isplitl [Hp]; · iexact Hp
      iapply each_join; isplitl [Hr] <;> iassumption
    iempintro
  iintro ⟨H, -⟩
  iapply Hk; iexact H

theorem sendOut_all (rest : Code F) (Q : PUnit → sProp 𝕄) :
    iprop(facts P G κ ∗ ((each fun k => waiting c (oIn k)) ∗ (each fun k => promised c (oIn k))
          ∗ (each fun k => iprop(∃ f, held (chunk sendM k) c fullShare f))
          ∗ (each fun k => iprop(∃ f, held (chunk recvxM k) (xp c) fullShare f))
          ∗ (each fun k => paying c (oSent k)) ∗ each fun k => paying (xp c) (oGot k)) ∗ owing c (owe c 0 0)
        ∗ (((each fun k => spent c (oIn k)) ∗ (each fun k => landing P G c (oIn k)) ∗ (each fun k => promised c (oSent k))
            ∗ owing c (owe c 8 0)) -∗ run c rest Q))
      ⊢ run c (eachChunk (sendOut c) rest) Q := by
  iintro ⟨#HF, ⟨H1, H2, H3, H4, H5, H6⟩, HO, Hk⟩
  iapply (each_chunk (R := facts P G κ) c
    (fun k => iprop((waiting c (oIn k) ∗ promised c (oIn k)) ∗ (∃ f, held (chunk sendM k) c fullShare f)
          ∗ (∃ f, held (chunk recvxM k) (xp c) fullShare f) ∗ paying c (oSent k) ∗ paying (xp c) (oGot k)))
    (fun k => iprop(spent c (oIn k) ∗ landing P G c (oIn k) ∗ promised c (oSent k))) (fun i => owing c (owe c i 0))
    (fun k rest => sendOut_step P G κ c k rest Q)) $$ [H1 H2 H3 H4 H5 H6 HO]
  · isplitr; · iexact HF
    isplitr [HO]
    · iapply each_join; isplitl [H1 H2]
      · iapply each_join; isplitl [H1] <;> iassumption
      iapply each_join; isplitl [H3]; · iexact H3
      iapply each_join; isplitl [H4]; · iexact H4
      iapply each_join; isplitl [H5] <;> iassumption
    iexact HO
  iintro ⟨H, HO⟩
  ihave H' := each_split $$ H; icases H' with ⟨H1, H2⟩
  ihave H' := each_split $$ H2; icases H' with ⟨H2, H3⟩
  iapply Hk
  isplitl [H1]; · iexact H1
  isplitl [H2]; · iexact H2
  isplitl [H3] <;> iassumption

theorem forward_all (rest : Code F) (Q : PUnit → sProp 𝕄) :
    iprop(facts P G κ ∗ ((each fun k => waiting c (oGot k)) ∗ (each fun k => promised c (oGot k))
          ∗ (each fun k => iprop(∃ f, held (chunk recvyM k) (yp c) fullShare f))
          ∗ (each fun k => paying c (oFwd k)) ∗ each fun k => paying (yp c) (oGotFwd k))
        ∗ (owing c (owe c 8 0) ∗ held lrowsM c fullShare (kept P c) ∗ resultUpTo P G c 0 0)
        ∗ (((each fun k => spent c (oGot k)) ∗ (each fun k => held (chunk recvxM k) c fullShare.right (gotX P c))
            ∗ (each fun k => promised c (oFwd k))
            ∗ owing c (owe c 8 8) ∗ held lrowsM c fullShare (kept P c) ∗ resultUpTo P G c 8 0) -∗ run c rest Q))
      ⊢ run c (eachChunk (forward c (G c)) rest) Q := by
  iintro ⟨#HF, ⟨H1, H2, H3, H4, H5⟩, HS, Hk⟩
  iapply (each_chunk (R := facts P G κ) c
    (fun k => iprop((waiting c (oGot k) ∗ promised c (oGot k)) ∗ (∃ f, held (chunk recvyM k) (yp c) fullShare f)
          ∗ paying c (oFwd k) ∗ paying (yp c) (oGotFwd k)))
    (fun k => iprop(spent c (oGot k) ∗ held (chunk recvxM k) c fullShare.right (gotX P c) ∗ promised c (oFwd k)))
    (fun i => iprop(owing c (owe c 8 i) ∗ held lrowsM c fullShare (kept P c) ∗ resultUpTo P G c i 0))
    (fun k rest => forward_step P G κ c k rest Q)) $$ [H1 H2 H3 H4 H5 HS]
  · isplitr; · iexact HF
    isplitr [HS]
    · iapply each_join; isplitl [H1 H2]
      · iapply each_join; isplitl [H1] <;> iassumption
      iapply each_join; isplitl [H3]; · iexact H3
      iapply each_join; isplitl [H4] <;> iassumption
    iexact HS
  iintro ⟨H, HS⟩
  ihave H' := each_split $$ H; icases H' with ⟨H1, H2⟩
  ihave H' := each_split $$ H2; icases H' with ⟨H2, H3⟩
  iapply Hk
  isplitl [H1]; · iexact H1
  isplitl [H2]; · iexact H2
  isplitl [H3] <;> iassumption

theorem finish_all (rest : Code F) (Q : PUnit → sProp 𝕄) :
    iprop(facts P G κ ∗ ((each fun k => waiting c (oGotFwd k)) ∗ each fun k => promised c (oGotFwd k))
        ∗ (owing c (owe c 8 8) ∗ held lrowsM c fullShare (kept P c) ∗ resultUpTo P G c 8 0)
        ∗ (((each fun k => spent c (oGotFwd k)) ∗ (each fun k => landing P G c (oGotFwd k))
            ∗ owing c (owe c 8 8) ∗ held lrowsM c fullShare (kept P c) ∗ held outM c fullShare (result P G c)) -∗ run c rest Q))
      ⊢ run c (eachChunk (finish c (G c)) rest) Q := by
  iintro ⟨#HF, ⟨H1, H2⟩, HS, Hk⟩
  iapply (each_chunk (R := facts P G κ) c
    (fun k => iprop(waiting c (oGotFwd k) ∗ promised c (oGotFwd k)))
    (fun k => iprop(spent c (oGotFwd k) ∗ landing P G c (oGotFwd k)))
    (fun i => iprop(owing c (owe c 8 8) ∗ held lrowsM c fullShare (kept P c) ∗ resultUpTo P G c 8 i))
    (fun k rest => finish_step P G κ c k rest Q)) $$ [H1 H2 HS]
  · isplitr; · iexact HF
    isplitr [HS]
    · iapply each_join; isplitl [H1] <;> iassumption
    iexact HS
  iintro ⟨H, HO, Hl, Hout⟩
  ihave H' := each_split $$ H; icases H' with ⟨H1, H2⟩
  iapply Hk
  isplitl [H1]; · iexact H1
  isplitl [H2]; · iexact H2
  isplitl [HO]; · iexact HO
  isplitl [Hl]; · iexact Hl
  iapply (result_whole P G c); iexact Hout

theorem settle_all (rest : Code F) (Q : PUnit → sProp 𝕄) :
    iprop(facts P G κ ∗ ((each fun k => waiting c (oSent k)) ∗ (each fun k => promised c (oSent k))
          ∗ (each fun k => waiting c (oFwd k)) ∗ each fun k => promised c (oFwd k)) ∗ owing c (owe c 8 8)
        ∗ (((each fun k => spent c (oSent k)) ∗ (each fun k => spent c (oFwd k)) ∗ (each fun k => landing P G c (oSent k))
            ∗ (each fun k => landing P G c (oFwd k)) ∗ owing c (owe c 8 8)) -∗ run c rest Q))
      ⊢ run c (eachChunk settle rest) Q := by
  iintro ⟨#HF, ⟨H1, H2, H3, H4⟩, HO, Hk⟩
  iapply (each_chunk (R := facts P G κ) c
    (fun k => iprop((waiting c (oSent k) ∗ promised c (oSent k)) ∗ waiting c (oFwd k) ∗ promised c (oFwd k)))
    (fun k => iprop(spent c (oSent k) ∗ spent c (oFwd k) ∗ landing P G c (oSent k) ∗ landing P G c (oFwd k)))
    (fun _ => owing c (owe c 8 8)) (fun k rest => settle_step P G κ c k rest Q)) $$ [H1 H2 H3 H4 HO]
  · isplitr; · iexact HF
    isplitr [HO]
    · iapply each_join; isplitl [H1 H2]
      · iapply each_join; isplitl [H1] <;> iassumption
      iapply each_join; isplitl [H3] <;> iassumption
    iexact HO
  iintro ⟨H, HO⟩
  ihave H' := each_split $$ H; icases H' with ⟨H1, H2⟩
  ihave H' := each_split $$ H2; icases H' with ⟨H2, H3⟩
  ihave H' := each_split $$ H3; icases H' with ⟨H3, H4⟩
  iapply Hk
  isplitl [H1]; · iexact H1
  isplitl [H2]; · iexact H2
  isplitl [H3]; · iexact H3
  isplitl [H4] <;> iassumption

/-! ## Closing the cells -/

theorem close_own : iprop(facts P G κ ∗ bigSep Finset.univ fun o => spent c o)
    ⊢ (|={Set.univ}=> bigSep Finset.univ fun o => semVal (cell c o) 0 : sProp 𝕄) := by
  refine (bigSep_with_persistent (R := facts P G κ) (Ψ := fun o => (iprop(|={Set.univ}=> semVal (cell c o) 0) : sProp 𝕄)) fun o _ => ?_).trans
    (bigSep_fupd Finset.univ _)
  unfold facts spent
  iintro ⟨⟨#HI, -⟩, Hat⟩
  iapply (Rounds.cell_close ER (Rd P G) (g := cell c o) (Set.mem_univ (κ (cell c o))) id (R := 1) (duties_later P G (cell c o)))
  isplitr; · iapply (inv_own P G κ c o); iexact HI
  iexact Hat

theorem close_bar : iprop(facts P G κ ∗ atPos ER (barCell c) 1 ∅ 0)
    ⊢ (|={Set.univ}=> semVal (barCell c) 0 : sProp 𝕄) := by
  unfold facts
  iintro ⟨⟨#HI, -⟩, Hat⟩
  iapply (Rounds.cell_close ER (Rd P G) (g := barCell c) (Set.mem_univ (κ (barCell c))) id (R := 1) (duties_later P G (barCell c)))
  isplitr; · iapply (inv_bar P G κ c); iexact HI
  iexact Hat

/-! ## Whole buffers back from what the copies left -/

theorem in_back : (each fun k => landing P G c (oIn k))
    ⊢ (iprop(held psrcM c fullShare (sent P c) ∗ each fun k => peerShare P c k) : sProp 𝕄) := by
  rw [held_chunks psrcM c fullShare (sent P c)]
  exact each_split

theorem sent_back : (each fun k => landing P G c (oSent k)) ⊢ (held sendM c fullShare (packed P c) : sProp 𝕄) :=
  Entails.of_eq (held_chunks sendM c fullShare (packed P c)).symm

theorem got_back : iprop((each fun k => landing P G c (oFwd k)) ∗ each fun k => held (chunk recvxM k) c fullShare.right (gotX P c))
    ⊢ (held recvxM c fullShare (gotX P c) : sProp 𝕄) := by
  rw [held_chunks recvxM c fullShare (gotX P c)]
  refine each_join.trans (bigSep_mono fun k _ => ?_)
  exact Entails.of_eq (landing_got P G c k).symm

theorem gotFwd_back : (each fun k => landing P G c (oGotFwd k)) ⊢ (held recvyM c fullShare (gotY P c) : sProp 𝕄) :=
  Entails.of_eq (held_chunks recvyM c fullShare (gotY P c)).symm

theorem result_none (f : Vec F S1024x1024 .bf16) : (held outM c fullShare f : sProp 𝕄) ⊢ resultUpTo P G c 0 0 := by
  unfold resultUpTo
  iintro H
  iexists f
  isplitr
  · ipureintro
    intro i h
    rcases h with ⟨k, hk, -⟩ | ⟨k, hk, -⟩ <;> exact absurd hk (Nat.not_lt_zero _)
  iexact H

/-! ## From the first copy to the return -/

/-- The rights device `c` pays with. -/
def tokens : sProp 𝕄 :=
  iprop((dutyTok ER (barCell (xp c)) 0 false ∗ dutyTok ER (barCell (yp c)) 0 true)
    ∗ ((each fun k => token c (oIn k)) ∗ (each fun k => token c (oSent k)) ∗ (each fun k => token (xp c) (oGot k))
      ∗ (each fun k => token c (oFwd k)) ∗ each fun k => token (yp c) (oGotFwd k)) ∗ token c oKept ∗ token c oScale)

/-- The scratch buffers, at contents unknown. -/
def scratch : sProp 𝕄 :=
  iprop((∃ f, held lrowsM c fullShare f) ∗ (∃ f, held psrcM c fullShare f) ∗ (∃ f, held sendM c fullShare f)
    ∗ (∃ f, held recvxM c fullShare f) ∗ (∃ f, held recvyM c fullShare f) ∗ ∃ f, held gvM c fullShare f)

def inputs : sProp 𝕄 := iprop(held pM c fullShare (P c) ∗ held gM c fullShare (G c))

/-- What device `c` brings to the body of the protocol, beside the facts; -/
def brings : sProp 𝕄 :=
  iprop((atPos ER (barCell c) 0 ∅ 0 ∗ cred (tallyAt (barCell c) () 2)) ∗ (bigSep Finset.univ fun o => waiting c o)
    ∗ (bigSep Finset.univ fun o => isOpen c o) ∗ tokens c
    ∗ ((each fun k => promised c (oGot k)) ∗ each fun k => promised c (oGotFwd k)))

/-- and what it has at the return. -/
def closed : sProp 𝕄 := iprop(semVal (barCell c) 0 ∗ bigSep Finset.univ fun o => semVal (cell c o) 0)

theorem flow_run (Q : PUnit → sProp 𝕄) :
    iprop(facts P G κ ∗ brings c ∗ owing c (oweAll c) ∗ inputs P G c ∗ scratch c ∗ (∃ f, held outM c fullShare f)
        ∗ ((closed c ∗ owing c 0 ∗ inputs P G c ∗ scratch c ∗ held outM c fullShare (result P G c)) -∗ Q ⟨⟩))
      ⊢ run c flow Q := by
  unfold flow run
  simp only [wp_deviceId]
  unfold brings inputs scratch tokens
  rw [over_own, over_own, input_split]
  iintro ⟨#HF, ⟨⟨Hbar, HbarC⟩, ⟨⟨Win, Wsent, Wgot, Wfwd, WgotF⟩, Wkept, Wscale⟩, ⟨⟨#Oin, #Osent, #Ogot, #Ofwd, #OgotF⟩, #Okept, #Oscale⟩,
    ⟨⟨Tbx, Tby⟩, ⟨Tin, Tsent, Tgot, Tfwd, TgotF⟩, Tkept, Tscale⟩, ⟨Cgot, CgotF⟩⟩, HO, ⟨⟨Hpeer, Hown, Hrest⟩, Hg⟩,
    ⟨Hl, Hpsrc, Hsend, Hrx, Hry, Hgv⟩, ⟨%fo, Hout⟩, Hk⟩
  ihave Hpsrc := (some_chunks psrcM c) $$ Hpsrc
  ihave Hsend := (some_chunks sendM c) $$ Hsend
  ihave Hrx := (some_chunks recvxM c) $$ Hrx
  ihave Hry := (some_chunks recvyM c) $$ Hry
  iapply (copyIn_all P G κ c _ Q)
  isplitr; · iexact HF
  isplitl [Tin Hpeer Hpsrc]
  · isplitl [Tin]
    · iapply (each_paying c oIn); isplitl [Tin]; · iexact Tin
      iexact Oin
    isplitl [Hpeer] <;> iassumption
  iintro Cin
  iapply (copyOwn_step P G κ c _ Q)
  isplitr; · iexact HF
  isplitl [Tkept Hown Hl]
  · unfold paying
    isplitl [Tkept]
    · isplitl [Tkept]; · iexact Tkept
      iexact Okept
    isplitl [Hown] <;> iassumption
  isplitl [Tscale Hg Hgv]
  · unfold paying
    isplitl [Tscale]
    · isplitl [Tscale]; · iexact Tscale
      iexact Oscale
    isplitl [Hg] <;> iassumption
  iintro ⟨Ckept, Cscale⟩
  iapply (meet_step P G κ c _ Q)
  isplitr; · iexact HF
  isplitl [Tbx Tby Hrx Hry]
  · unfold signalling
    isplitl [Tbx Tby]; · isplitl [Tbx] <;> iassumption
    isplitl [Hrx]
    · iapply each_join; isplitl [Hrx]; · iexact Hrx
      iexact Ogot
    iapply each_join; isplitl [Hry]; · iexact Hry
    iexact OgotF
  isplitl [Hbar HbarC]; · isplitl [Hbar] <;> iassumption
  isplitl [HO]; · iexact HO
  unfold signalX signalY
  iintro ⟨Hbar, HX, HY, HO⟩
  ihave HX' := each_split $$ HX; icases HX' with ⟨Hrx, #OgotX⟩
  ihave HY' := each_split $$ HY; icases HY' with ⟨Hry, #OgotY⟩
  iapply (sendOut_all P G κ c _ Q)
  isplitr; · iexact HF
  isplitl [Win Cin Hsend Hrx Tsent Tgot]
  · isplitl [Win]; · iexact Win
    isplitl [Cin]; · iexact Cin
    isplitl [Hsend]; · iexact Hsend
    isplitl [Hrx]; · iexact Hrx
    isplitl [Tsent]
    · iapply (each_paying c oSent); isplitl [Tsent]; · iexact Tsent
      iexact Osent
    iapply (each_paying (xp c) oGot); isplitl [Tgot]; · iexact Tgot
    iexact OgotX
  isplitl [HO]; · iexact HO
  iintro ⟨Sin, Lin, Csent, HO⟩
  iapply (awaitOwn_step P G κ c _ Q)
  isplitr; · iexact HF
  isplitl [Wkept Ckept]; · isplitl [Wkept] <;> iassumption
  isplitl [Wscale Cscale]; · isplitl [Wscale] <;> iassumption
  isplitl [HO]; · iexact HO
  iintro ⟨Skept, Sscale, Lkept, Lscale, HO⟩
  ihave Lkept := (show landing P G c oKept ⊢ iprop(held lrowsM c fullShare (kept P c) ∗ held (ownRows c) c (dealt 8) (P c)) from Entails.refl _) $$ Lkept
  icases Lkept with ⟨Hl, Hown⟩
  ihave Lscale := (Entails.of_eq (landing_scale P G c)) $$ Lscale
  icases Lscale with ⟨Hgv, Hg⟩
  iapply (forward_all P G κ c _ Q)
  isplitr; · iexact HF
  isplitl [Wgot Cgot Hry Tfwd TgotF]
  · isplitl [Wgot]; · iexact Wgot
    isplitl [Cgot]; · iexact Cgot
    isplitl [Hry]; · iexact Hry
    isplitl [Tfwd]
    · iapply (each_paying c oFwd); isplitl [Tfwd]; · iexact Tfwd
      iexact Ofwd
    iapply (each_paying (yp c) oGotFwd); isplitl [TgotF]; · iexact TgotF
    iexact OgotY
  isplitl [HO Hl Hout]
  · isplitl [HO]; · iexact HO
    isplitl [Hl]; · iexact Hl
    iapply (result_none P G c fo); iexact Hout
  iintro ⟨Sgot, Hright, Cfwd, HO, Hl, Hout⟩
  iapply (finish_all P G κ c _ Q)
  isplitr; · iexact HF
  isplitl [WgotF CgotF]; · isplitl [WgotF] <;> iassumption
  isplitl [HO Hl Hout]
  · isplitl [HO]; · iexact HO
    isplitl [Hl] <;> iassumption
  iintro ⟨SgotF, LgotF, HO, Hl, Hout⟩
  iapply (settle_all P G κ c _ Q)
  isplitr; · iexact HF
  isplitl [Wsent Csent Wfwd Cfwd]
  · isplitl [Wsent]; · iexact Wsent
    isplitl [Csent]; · iexact Csent
    isplitl [Wfwd] <;> iassumption
  isplitl [HO]; · iexact HO
  iintro ⟨Ssent, Sfwd, Lsent, Lfwd, HO⟩
  unfold run
  rw [wp_ret]
  imod (close_bar P G κ c) $$ [Hbar] with Vbar
  · isplitr; · iexact HF
    iexact Hbar
  imod (close_own P G κ c) $$ [Sin Ssent Sgot Sfwd SgotF Skept Sscale] with Vown
  · isplitr; · iexact HF
    rw [over_own]
    isplitl [Sin Ssent Sgot Sfwd SgotF]
    · isplitl [Sin]; · iexact Sin
      isplitl [Ssent]; · iexact Ssent
      isplitl [Sgot]; · iexact Sgot
      isplitl [Sfwd] <;> iassumption
    isplitl [Skept] <;> iassumption
  imodintro
  ihave Lin := (in_back P G c) $$ Lin
  icases Lin with ⟨Hpsrc, Hpeer⟩
  iapply Hk
  isplitl [Vbar Vown]; · unfold closed; isplitl [Vbar] <;> iassumption
  isplitl [HO]; · rw [owe_nothing]; iexact HO
  isplitl [Hpeer Hown Hrest Hg]
  · isplitl [Hpeer Hown Hrest]
    · isplitl [Hpeer]; · iexact Hpeer
      isplitl [Hown] <;> iassumption
    iexact Hg
  isplitr [Hout]
  · isplitl [Hl]; · iexists _; iexact Hl
    isplitl [Hpsrc]; · iexists _; iexact Hpsrc
    isplitl [Lsent]; · iexists _; iapply (sent_back P G c); iexact Lsent
    isplitl [Lfwd Hright]; · iexists _; iapply (got_back P G c); isplitl [Lfwd] <;> iassumption
    isplitl [LgotF]; · iexists _; iapply (gotFwd_back P G c); iexact LgotF
    iexists _; iexact Hgv
  iexact Hout

end Cert.KernelIdeal.Body

end
-- ==== Proof.Region.lean ====
/- The kernel as a region of the program: what each device brings to it, what the body needs and leaves, and the program's
   one host operation before it. -/
module

public import proofs.«01_k».proof.Proof.Whole
public import proofs.«01_k».proof.Proof.Gen.KernelIdeal.Frame
public import Idealize.ShloMosaic.Lib.Pipeline.RegionTalk

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
open Cert.KernelIdeal.Gen

variable {F : FTy → Type} [FloatOps F]

local notation "𝕄" => MT nD τ sig Unit (Elt F) ℕ UU ℕ

variable (m : (ℓ : Loc nD τ sig) → Buf (Elt F) ℓ)

/-! ## Contents of the unscoped buffers -/

/-- At launch, when the kernel starts, and when it has returned. -/
abbrev V₀ (c : Dev nD) : Valuation τ sig (Elt F) := fun b => m (c, b)
abbrev V₁ (c : Dev nD) : Valuation τ sig (Elt F) := StableHlo.after hostOps0 (V₀ m c)

/-- The partial blocks and the scales, as the kernel finds them. -/
abbrev partials (c : Dev nD) : Vec F S1x2048x1024 .f32 := V₁ m c (Proc.devRef .tc main_arg0)
abbrev scales (c : Dev nD) : Vec F S1x1024 .f32 := V₁ m c (Proc.devRef .tc main_v1)
abbrev outcome (c : Dev nD) : Vec F S1024x1024 .bf16 := result (partials m) (scales m) c

def V₂ (c : Dev nD) : Valuation τ sig (Elt F) := Function.update (V₁ m c) (Proc.devRef .tc main_v2) (outcome m c)

theorem V₂_result (c : Dev nD) : V₂ m c (Proc.devRef .tc main_v2) = outcome m c := Function.update_self ..
theorem V₂_other (c : Dev nD) (b : DevRef τ sig) (h : b ≠ Proc.devRef .tc main_v2) : V₂ m c b = V₁ m c b := Function.update_of_ne h ..

/-! ## The unscoped buffers -/

abbrev pt (c : Dev nD) (b : Ref sig .tc) (f : b.ty.Contents (Elt F)) : sProp 𝕄 := (c : Thread nD τ).loc b ↦{fullShare} f

theorem held_whole (c : Dev nD) (b : Ref sig .tc) (q : PosShare TreeShare) (f : b.ty.Contents (Elt F)) :
    (held (Memref.whole b) c q f : sProp 𝕄) = ((c : Thread nD τ).loc b ↦{q} f) := by
  unfold held
  simp only [Memref.view_whole, View.set_whole]

def bufs : Finset (DevRef τ sig) := (StableHlo.tcRefs τ sig).filter fun b => ¬ b.isScoped
/-- Those that are not the result's. -/
def inner : Finset (DevRef τ sig) := {Proc.devRef .tc main_arg0, Proc.devRef .tc main_arg1, Proc.devRef .tc main_v1}

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem held_inner (c : Dev nD) (W : Valuation τ sig (Elt F)) : (StableHlo.held (c : Thread nD τ) inner W : sProp 𝕄)
    = iprop(pt c main_arg0 (W (Proc.devRef .tc main_arg0)) ∗ pt c main_arg1 (W (Proc.devRef .tc main_arg1)) ∗ pt c main_v1 (W (Proc.devRef .tc main_v1))) := by
  unfold StableHlo.held
  rw [bigSep_eq_bigSepL_of_eq [Proc.devRef .tc main_arg0, Proc.devRef .tc main_arg1, Proc.devRef .tc main_v1] (by decide) (by decide)]
  rfl

theorem held_result (c : Dev nD) (W : Valuation τ sig (Elt F)) :
    (StableHlo.held (c : Thread nD τ) (Pipeline.arrRefs (τ := τ) spec0) W : sProp 𝕄) = pt c main_v2 (W (Proc.devRef .tc main_v2)) := by
  unfold StableHlo.held
  rw [show Pipeline.arrRefs (τ := τ) spec0 = {Proc.devRef .tc main_v2} from by decide, bigSep_singleton]

theorem held_bufs (c : Dev nD) (W : Valuation τ sig (Elt F)) : (StableHlo.held (c : Thread nD τ) bufs W : sProp 𝕄)
    = iprop(pt c main_v2 (W (Proc.devRef .tc main_v2)) ∗ StableHlo.held (c : Thread nD τ) inner W) := by
  rw [held_inner]
  unfold StableHlo.held
  rw [bigSep_eq_bigSepL_of_eq [Proc.devRef .tc main_v2, Proc.devRef .tc main_arg0, Proc.devRef .tc main_arg1, Proc.devRef .tc main_v1] (by decide) (by decide)]
  rfl

theorem inputs_eq (c : Dev nD) (W : Valuation τ sig (Elt F)) (hp : W (Proc.devRef .tc main_arg0) = partials m c)
    (hg : W (Proc.devRef .tc main_v1) = scales m c) :
    (StableHlo.held (c : Thread nD τ) inner W : sProp 𝕄)
      = iprop(inputs (partials m) (scales m) c ∗ pt c main_arg1 (W (Proc.devRef .tc main_arg1))) := by
  rw [held_inner, hp, hg]
  unfold inputs
  rw [held_whole c main_arg0 fullShare (partials m c), held_whole c main_v1 fullShare (scales m c)]
  refine Entails.antisymm (show _ ⊢ (_ : sProp 𝕄) from ?_) (show _ ⊢ (_ : sProp 𝕄) from ?_)
  · iintro ⟨H0, H1, Hg⟩
    isplitr [H1]; · isplitl [H0] <;> iassumption
    iexact H1
  · iintro ⟨⟨H0, Hg⟩, H1⟩
    isplitl [H0]; · iexact H0
    isplitl [H1] <;> iassumption

theorem scratch_eq (c : Dev nD) :
    (Pipeline.scopedRest (Ix := Unit) (Name := ℕ) (U := UU) (Lvl := ℕ) (Val := Elt F) spec0 c : sProp 𝕄) = scratch c := by
  rw [scopedRest0_eq]
  unfold scratch
  simp only [held_whole c cc0_scratch0 fullShare, held_whole c cc0_scratch1 fullShare, held_whole c cc0_scratch2 fullShare,
    held_whole c cc0_scratch3 fullShare, held_whole c cc0_scratch4 fullShare, held_whole c cc0_scratch5 fullShare]

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem ownSems_eq (c : Dev nD) : (Pipeline.ownSems0 osem c : sProp 𝕄) = bigSep Finset.univ fun o => semVal (cell c o) 0 := rfl

theorem ownSems_facts : Pipeline.OwnSemFacts spec0 osem := by decide +kernel

/-! ## What the body needs and leaves -/

/-- What device `c` enters the body with, beside buffers; -/
def opened (c : Dev nD) : sProp 𝕄 := iprop(∃ κ, facts (partials m) (scales m) κ ∗ brings c)
/-- its state before the body, and after. -/
def before (c : Dev nD) : sProp 𝕄 :=
  iprop(opened m c ∗ StableHlo.held (c : Thread nD τ) inner (V₁ m c) ∗ scratch c ∗ ∃ r, prngReg c r)
def afterwards (c : Dev nD) : sProp 𝕄 :=
  iprop(closed c ∗ StableHlo.held (c : Thread nD τ) inner (V₁ m c) ∗ scratch c ∗ ∃ r, prngReg c r)

def dat (c : Dev nD) : Dat τ (Elt F) Unit ℕ UU ℕ cfg0 c where
  A | 0 => V₁ m c (Proc.devRef .tc main_v2)
  after | 0 => fun _ => outcome m c
  Φ t := if t.val = 0 then before m c else afterwards m c
  q _ := fullShare
  owed t := if t.val = 0 then oweAll c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_first (c : Dev nD) : (dat m c).owed 0 = oweAll c := by
  show (if (0 : Fin (cfg0.N + 1)).val = 0 then oweAll c else 0) = oweAll c
  exact if_pos rfl
theorem owed_last (c : Dev nD) : (dat m c).owed (Fin.last _) = 0 := by
  show (if (Fin.last cfg0.N).val = 0 then oweAll c else 0) = 0
  rw [Fin.val_last, if_neg (by rw [show cfg0.N = 1 from N_0]; decide)]
theorem Φ_last (c : Dev nD) : (dat m c).Φ (Fin.last _) = afterwards m c := by
  show (if (Fin.last cfg0.N).val = 0 then before m c else afterwards m c) = _
  rw [Fin.val_last, if_neg (by rw [show cfg0.N = 1 from N_0]; decide)]

theorem owesAt_intro (c : Dev nD) (t : Fin (cfg0.N + 1)) (O : CellTallies nD τ sig Unit) (h : (dat m c).owed t = O) :
    (owing c O : sProp 𝕄) ⊢ ((dat m c).owesAt () t : sProp 𝕄) := by
  unfold owing Dat.owesAt Pipeline.owesWithin Dat.bound
  rw [h]
  iintro ⟨%W, HO⟩; iexists W; isplitr; · ipureintro; exact fun _ _ => Or.inl trivial
  iexact HO
theorem owesAt_elim (c : Dev nD) (t : Fin (cfg0.N + 1)) (O : CellTallies nD τ sig Unit) (h : (dat m c).owed t = O) :
    ((dat m c).owesAt () t : sProp 𝕄) ⊢ owing c O := by
  unfold owing Dat.owesAt Pipeline.owesWithin
  rw [h]
  iintro ⟨%W, -, HO⟩; iexists W; iexact HO

theorem body_run (c : Dev nD) (Q : PUnit → sProp 𝕄) :
    iprop(before m c ∗ owing c (oweAll c) ∗ (∃ f, held outM c fullShare f)
        ∗ ((afterwards m c ∗ owing c 0 ∗ held outM c fullShare (outcome m c)) -∗ Q ⟨⟩))
      ⊢ run c flow Q := by
  unfold before afterwards opened
  rw [inputs_eq m c (V₁ m c) rfl rfl]
  iintro ⟨⟨⟨%κ, HF, HB⟩, ⟨Hin, H1⟩, Hs, Hr⟩, HO, Hout, Hk⟩
  iapply (flow_run (partials m) (scales m) κ c Q)
  isplitl [HF]; · iexact HF
  isplitl [HB]; · iexact HB
  isplitl [HO]; · iexact HO
  isplitl [Hin]; · iexact Hin
  isplitl [Hs]; · iexact Hs
  isplitl [Hout]; · iexact Hout
  iintro ⟨Hc, HO, Hin, Hs, Hout⟩
  iapply Hk
  isplitr [HO Hout]
  · isplitl [Hc]; · iexact Hc
    isplitl [Hin H1]; · isplitl [Hin] <;> iassumption
    isplitl [Hs] <;> iassumption
  isplitl [HO] <;> iassumption

set_option maxRecDepth 8000 in
theorem body_meets (c : Dev nD) : BodyObligation (dat m c) (defs₀ (F := F)) 𝒱₀ () Set.univ := fun t => by
  obtain rfl := fin_N0 t
  rw [bigSep_W0, bigSep_W0]
  show iprop(before m c ∗ (dat m c).owesAt () t0_0.castSucc ∗ ∃ d, owns (c : Thread nD τ) outM fullShare ((dat m c).before 0 t0_0 d))
    ⊢ run c (bodyAt0 t0_0) fun _ => iprop(afterwards m c ∗ (dat m c).owesAt () t0_0.succ ∗ owns (c : Thread nD τ) outM fullShare (outcome m c))
  rw [body_eq]
  iintro ⟨Hb, HO, ⟨%d, Hout⟩⟩
  ihave HO' := (owesAt_elim m c t0_0.castSucc (oweAll c) (owed_first m c)) $$ HO
  unfold owns
  icases Hout with ⟨%f, -, Hout⟩
  iapply (body_run m c)
  isplitl [Hb]; · iexact Hb
  isplitl [HO']; · iexact HO'
  isplitl [Hout]; · iexists f; iexact Hout
  iintro ⟨Ha, HO, Hout⟩
  isplitl [Ha]; · iexact Ha
  isplitl [HO]; · iapply (owesAt_intro m c t0_0.succ 0 (owed_last m c)); iexact HO
  iexists _
  isplitr; · ipureintro; exact View.read_whole _ _
  iexact Hout

/-! ## The array the result is written back to -/

theorem arr_start (c : Dev nD) : (dat m c).arrAt 0 0 = V₁ m c (Proc.devRef .tc main_v2) := rfl

theorem arr_end (c : Dev nD) : (dat m c).arrAt 0 cfg0.N = V₂ m c (Proc.devRef .tc main_v2) := by
  rw [V₂_result]
  exact (dat m c).arrAt_eq_of_after_last 0 t0_0 (by decide +kernel) (outcome m c) fun j => rfl

/-! ## The region and the host operation before it -/

/-- What the launch hands device `c` for the protocol, its own cells not yet open; -/
def dormant (c : Dev nD) : sProp 𝕄 :=
  iprop((atPos ER (barCell c) 0 ∅ 0 ∗ cred (tallyAt (barCell c) () 2)) ∗ (bigSep Finset.univ fun o => openTok ER (cell c o)) ∗ tokens c
    ∗ ((each fun k => promised c (oGot k)) ∗ each fun k => promised c (oGotFwd k)))
def launched (c : Dev nD) : sProp 𝕄 := iprop(∃ κ, invs (partials m) (scales m) κ ∗ dormant c)
/-- and what it holds beside buffers until the kernel starts. -/
def ready (c : Dev nD) : sProp 𝕄 := iprop(launched m c ∗ (∃ r, prngReg c r) ∗ owing c (oweAll c))

theorem open_own (κ : GSem nD τ sig → ℕ) (c : Dev nD) :
    iprop(invs (partials m) (scales m) κ ∗ (bigSep Finset.univ fun o => openTok ER (cell c o)) ∗ bigSep Finset.univ fun o => semVal (cell c o) 0)
      ⊢ (|={Set.univ}=> iprop((bigSep Finset.univ fun o => waiting c o) ∗ bigSep Finset.univ fun o => isOpen c o) : sProp 𝕄) := by
  have one (o : Own) : iprop(invs (partials m) (scales m) κ ∗ (openTok ER (cell c o) ∗ semVal (cell c o) 0))
      ⊢ (iprop(|={Set.univ}=> (waiting c o ∗ isOpen c o)) : sProp 𝕄) := by
    unfold waiting
    iintro ⟨#HI, Ho, Hv⟩
    imod (Rounds.cell_open ER (Rd (partials m) (scales m)) (g := cell c o) (Set.mem_univ (κ (cell c o)))) $$ [Ho Hv] with ⟨Hat, #Hr⟩
    · isplitr; · iapply (inv_own (partials m) (scales m) κ c o); iexact HI
      isplitl [Ho] <;> iassumption
    imodintro
    isplitl [Hat]; · iexact Hat
    iexact Hr
  rw [← bigSep_sep', ← bigSep_sep']
  exact (bigSep_with_persistent fun o _ => one o).trans (bigSep_fupd Finset.univ _)

theorem opens (c : Dev nD) : iprop(launched m c ∗ Pipeline.ownSems0 osem c ∗ levAts L lv) ⊢ (|={Set.univ}=> opened m c : sProp 𝕄) := by
  rw [ownSems_eq]
  unfold launched opened dormant brings facts
  iintro ⟨⟨%κ, #HI, Hbar, Ho, Ht, Hc⟩, Hv, #Hlev⟩
  imod (open_own m κ c) $$ [Ho Hv] with ⟨Hw, Hr⟩
  · isplitr; · iexact HI
    isplitl [Ho]; · iexact Ho
    iexact Hv
  imodintro
  iexists κ
  isplitr; · isplitl <;> iassumption
  isplitl [Hbar]; · iexact Hbar
  isplitl [Hw]; · iexact Hw
  isplitl [Hr]; · iexact Hr
  isplitl [Ht] <;> iassumption

theorem enters (c : Dev nD) :
    iprop(Pipeline.scopedRest (Pipeline.pin (pcfgs (F := F)) adm 0).spec c ∗ (∃ r, prngReg c r) ∗ StableHlo.held (c : Thread nD τ) inner (V₁ m c) ∗ opened m c)
      ⊢ (pdats m 0 c).Φ 0 := by
  rw [show (pdats m 0 c).Φ 0 = before m c from rfl]
  unfold before
  rw [← scratch_eq]
  iintro ⟨Hs, Hp, Hh, Ho⟩
  isplitl [Ho]; · iexact Ho
  isplitl [Hh]; · iexact Hh
  isplitl [Hs]; · iexact Hs
  iexact Hp

theorem held_inner_after (c : Dev nD) : (StableHlo.held (c : Thread nD τ) inner (V₂ m c) : sProp 𝕄) = StableHlo.held (c : Thread nD τ) inner (V₁ m c) :=
  StableHlo.held_congr (c : Thread nD τ) fun b hb => V₂_other m c b fun h => absurd (h ▸ hb) (by decide)

theorem leaves (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c : Thread nD τ) inner (V₂ m c) ∗ Pipeline.ownSems0 osem c ∗ semVal (barCell c) 0) := by
  rw [show (pdats m 0 c).Φ (Fin.last _) = afterwards m c from Φ_last m c]
  unfold afterwards closed
  rw [← scratch_eq, held_inner_after, ownSems_eq]
  iintro ⟨⟨Hb, Hv⟩, Hh, Hs, Hp⟩
  isplitl [Hs]; · iexact Hs
  isplitl [Hp]; · iexact Hp
  isplitl [Hh]; · iexact Hh
  isplitl [Hv]; · iexact Hv
  iexact Hb

theorem owed_above (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  rw [show (pdats (F := F) m 0 c).owed t = if t.val = 0 then oweAll c else 0 from rfl] at h
  split at h
  · obtain ⟨d, sm, rfl, hl⟩ := oweAll_pos h
    exact ⟨mem_L d sm i, hl⟩
  · exact absurd h (Nat.lt_irrefl 0)

theorem lv_foreign (c : Dev nD) (sm : SemLoc sig) (hb : sm ≠ .reg barS) (ho : ∀ o, osem o ≠ sm) : lv ((c : Thread nD τ), sm) () = 0 := by
  have hw : whose sm = none := dif_neg fun ⟨o, h⟩ => ho o h
  unfold lv
  dsimp only
  rw [if_neg hb, hw]

theorem staging_level (c : Dev nD) (w : Fin (Pipeline.pin (pcfgs (F := F)) adm 0).W) (s : Fin ((Pipeline.pin (pcfgs (F := F)) adm 0).win w).nbuf) :
    lv ((c : Thread nD τ), .dma (((Pipeline.pin (pcfgs (F := F)) adm 0).win w).sem s)) () ≤ 0 :=
  (lv_foreign c _ (fun h => by cases h) fun o => ownSems_facts.disj o w s).le

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

theorem hostOps_in (op : HloOp τ sig (Elt F)) (h : op ∈ (hostOps0 : List (HloOp τ sig (Elt F)))) : op.bufs ⊆ bufs := by
  obtain rfl := List.mem_singleton.mp h
  show ({Proc.devRef .tc main_arg1, Proc.devRef .tc main_v1} : Finset (DevRef τ sig)) ⊆ bufs
  decide
theorem hostOps_fresh (op : HloOp τ sig (Elt F)) (h : op ∈ (hostOps0 : List (HloOp τ sig (Elt F)))) : op.fresh = ∅ := by
  obtain rfl := List.mem_singleton.mp h
  rfl

def seg0 : ℍ := Pipeline.HostSeg.ofOps _ _ _ _ _ bufs hostOps0 hostOps_in hostOps_fresh (V₀ m) (ready m)

set_option backward.isDefEq.respectTransparency.types false in
def reg0 : ℝ𝕊 0 :=
  Pipeline.RegionSeg.ofTalk (pcfgs (F := F)) adm (pdats m) () defs₀ 𝒱₀ L lv 0 osem ownSems_facts
    inner inner (Finset.Subset.refl _) launch0.toP rfl (fun c => (body_meets m c).loose)
    (fun _ => 0) oweAll (fun c => (owed_first m c).trans (zero_add _).symm) (owed_last m) (fun _ => rfl) (fun _ w => by fin_cases w; rfl)
    (V₁ m) (V₂ m) (fun _ b hb => absurd hb (by rw [Finset.sdiff_self]; exact Finset.notMem_empty b))
    (launched m) (fun c => semVal (barCell c) 0) (opened m) (fun c => semVal (barCell c) 0) (opens m) (enters m) (leaves m)
    (fun c => by iintro H; imodintro; iexact H)
    (fun _ => 0)
    ⟨fun c w s => mem_L c _ (), staging_level, fun c t g i h => owed_above m c t g i h⟩
    (fun _ => iprop(emp))
    (fun c w => by fin_cases w; exact arr_start m c) (fun c w => by fin_cases w; exact arr_end m c)

end Cert.KernelIdeal.Body

end
-- ==== Proof.Run.lean ====
/- The whole program on the four devices: what the launch deals, and the run to the end. -/
module

public import proofs.«01_k».proof.Proof.Region

@[expose] public section

noncomputable section

namespace Cert.KernelIdeal.Body

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The region's ends -/

theorem reg0_pre (c : Dev nD) : iprop(StableHlo.held (c : Thread nD τ) bufs (V₁ m c) ∗ ready m c) ⊢ (reg0 m).pre c := by
  show _ ⊢ iprop(StableHlo.held (c : Thread nD τ) (Pipeline.arrRefs (τ := τ) spec0) (V₁ m c) ∗ (∃ r, prngReg c r)
    ∗ (StableHlo.held (c : Thread nD τ) inner (V₁ m c) ∗ emp) ∗ launched m c ∗ ∃ W, owes (c : Thread nD τ) (0 + oweAll c) W)
  rw [held_result, held_bufs, zero_add]
  unfold ready owing
  iintro ⟨⟨Hr, Hh⟩, Hl, Hp, HO⟩
  isplitl [Hr]; · iexact Hr
  isplitl [Hp]; · iexact Hp
  isplitl [Hh]
  · isplitl [Hh]; · iexact Hh
    iempintro
  isplitl [Hl] <;> iassumption

theorem reg0_post (c : Dev nD) : (reg0 m).post c
    ⊢ iprop((StableHlo.held (c : Thread nD τ) bufs (V₂ m c) ∗ semVal (barCell c) 0) ∗ ∃ W, owes (c : Thread nD τ) (0 : CellTallies nD τ sig Unit) W) := by
  show iprop(StableHlo.held (c : Thread nD τ) (Pipeline.arrRefs (τ := τ) spec0) (V₂ m c) ∗ (∃ r, prngReg c r)
    ∗ (StableHlo.held (c : Thread nD τ) inner (V₂ m c) ∗ emp) ∗ semVal (barCell c) 0 ∗ ∃ W, owes (c : Thread nD τ) (0 : CellTallies nD τ sig Unit) W) ⊢ _
  rw [held_result, held_bufs]
  iintro ⟨Hr, -, ⟨Hh, -⟩, Hb, HO⟩
  isplitr [HO]
  · isplitr [Hb]
    · isplitl [Hr] <;> iassumption
    iexact Hb
  iexact HO

def segs : List (Pipeline.Seg (pcfgs (F := F)) adm (pdats m) () defs₀ 𝒱₀ L lv) := [.host (seg0 m), .region (reg0 m)]

/-! ## Tokens -/

/-- Every duty of device `c`'s cells: the two neighbours' signals and the copy on each own cell. -/
abbrev duty (c : Dev nD) : Bool ⊕ Own → GSem nD τ sig × ℕ × Bool
  | .inl b => (barCell c, 0, b)
  | .inr o => (cell c o, 0, false)

theorem duty_injective : Function.Injective fun x : Dev nD × (Bool ⊕ Own) => duty x.1 x.2 := by
  rintro ⟨c, x⟩ ⟨c', x'⟩ h
  have hc : c = c' := by
    have h1 : (duty c x).1.1.1 = (duty c' x').1.1.1 := congrArg (fun t : GSem nD τ sig × ℕ × Bool => t.1.1.1) h
    rcases x with b | o <;> rcases x' with b' | o' <;> exact h1
  have hs : (duty c x).1.2 = (duty c' x').1.2 := congrArg (fun t : GSem nD τ sig × ℕ × Bool => t.1.2) h
  have hb : (duty c x).2.2 = (duty c' x').2.2 := congrArg (fun t : GSem nD τ sig × ℕ × Bool => t.2.2) h
  subst hc
  refine Prod.ext rfl ?_
  rcases x with b | o <;> rcases x' with b' | o'
  · exact congrArg Sum.inl hb
  · exact absurd hs.symm (osem_ne_bar o')
  · exact absurd hs (osem_ne_bar o)
  · exact congrArg Sum.inr (osem_injective hs)

def allDuties : Finset (GSem nD τ sig × ℕ × Bool) := Finset.univ.map ⟨fun x : Dev nD × (Bool ⊕ Own) => duty x.1 x.2, duty_injective⟩

/-- The tokens of device `c`'s own cells. -/
def dealtTokens (c : Dev nD) : sProp 𝕄 :=
  iprop((dutyTok ER (barCell c) 0 false ∗ dutyTok ER (barCell c) 0 true)
    ∗ ((each fun k => token c (oIn k)) ∗ (each fun k => token c (oSent k)) ∗ (each fun k => token c (oGot k))
      ∗ (each fun k => token c (oFwd k)) ∗ each fun k => token c (oGotFwd k)) ∗ token c oKept ∗ token c oScale)

theorem allDuties_eq : bigSep allDuties (fun x => (dutyTok ER x.1 x.2.1 x.2.2 : sProp 𝕄)) = bigSep Finset.univ fun c : Dev nD => dealtTokens c := by
  unfold allDuties
  rw [bigSep_map, bigSep_univ_prod]
  refine bigSep_congr fun c _ => ?_
  unfold dealtTokens
  rw [BI.bigSep_univ_sum, over_own, bigSep_eq_bigSepL_of_eq [false, true] (by decide) (by decide)]
  rfl

def xEquiv : Dev nD ≃ Dev nD := ⟨xp, xp, xp_xp, xp_xp⟩
def yEquiv : Dev nD ≃ Dev nD := ⟨yp, yp, yp_yp, yp_yp⟩

/-- The tokens of the cells a neighbour completes go to that neighbour. -/
theorem tokens_around : (bigSep Finset.univ fun c : Dev nD => (dealtTokens c : sProp 𝕄)) ⊢ bigSep Finset.univ fun c : Dev nD => tokens c := by
  unfold dealtTokens tokens
  simp only [bigSep_sep']
  rw [bigSep_univ_equiv xEquiv (fun c : Dev nD => (dutyTok ER (barCell c) 0 false : sProp 𝕄)),
    bigSep_univ_equiv yEquiv (fun c : Dev nD => (dutyTok ER (barCell c) 0 true : sProp 𝕄)),
    bigSep_univ_equiv xEquiv (fun c : Dev nD => (each fun k => token c (oGot k) : sProp 𝕄)),
    bigSep_univ_equiv yEquiv (fun c : Dev nD => (each fun k => token c (oGotFwd k) : sProp 𝕄))]
  exact BI.Entails.refl _

/-! ## Credit -/

theorem credit_at (sm : SemLoc sig) (n : ℕ) (c : Dev nD) :
    (Pipeline.launchCred (fun d => tallyAt ((xp d : Thread nD τ), sm) () n) c : sProp 𝕄) ⊢ cred (tallyAt ((c : Thread nD τ), sm) () n) :=
  Pipeline.launchCred_tallyAt sm xp xp xp_xp xp_xp () n c
theorem credit_at' (sm : SemLoc sig) (n : ℕ) (c : Dev nD) :
    (Pipeline.launchCred (fun d => tallyAt ((yp d : Thread nD τ), sm) () n) c : sProp 𝕄) ⊢ cred (tallyAt ((c : Thread nD τ), sm) () n) :=
  Pipeline.launchCred_tallyAt sm yp yp yp_yp yp_yp () n c

/-- What the devices owe at launch is, on each device, the credit it waits with. -/
theorem credits (c : Dev nD) : (Pipeline.launchCred oweAll c : sProp 𝕄)
    ⊢ iprop(cred (tallyAt (barCell c) () 2) ∗ ((each fun k => promised c (oGot k)) ∗ each fun k => promised c (oGotFwd k))) := by
  have h : (oweAll : Dev nD → CellTallies nD τ sig Unit) = fun d => ((∑ k ∈ Finset.univ, dueX d k + ∑ k ∈ Finset.univ, dueY d k)
      + tallyAt (barCell (yp d)) () 1) + tallyAt (barCell (xp d)) () 1 := by
    funext d; unfold oweAll owe; rw [chunksFrom_zero]
  rw [h, Pipeline.launchCred_add, Pipeline.launchCred_add, Pipeline.launchCred_add, Pipeline.launchCred_sum, Pipeline.launchCred_sum]
  have hx : (each fun k => Pipeline.launchCred (fun d => dueX d k) c : sProp 𝕄) ⊢ each fun k => promised c (oGot k) :=
    bigSep_mono fun k _ => credit_at (F := F) (osem (oGot k)) units c
  have hy : (each fun k => Pipeline.launchCred (fun d => dueY d k) c : sProp 𝕄) ⊢ each fun k => promised c (oGotFwd k) :=
    bigSep_mono fun k _ => credit_at' (F := F) (osem (oGotFwd k)) units c
  have hb : iprop(cred (tallyAt (barCell c) () 1) ∗ cred (tallyAt (barCell c) () 1)) ⊢ (cred (tallyAt (barCell c) () 2) : sProp 𝕄) := by
    rw [show (tallyAt (barCell c) () 2 : CellTallies nD τ sig Unit) = tallyAt (barCell c) () 1 + tallyAt (barCell c) () 1 from (tallyAt_add (barCell c) () 1 1).symm]
    exact (cred_add _ _).2
  iintro ⟨⟨⟨Hx, Hy⟩, Hby⟩, Hbx⟩
  isplitl [Hby Hbx]
  · iapply hb
    isplitl [Hby]
    · iapply (credit_at' (.reg barS) 1 c) $$ Hby
    · iapply (credit_at (.reg barS) 1 c) $$ Hbx
  isplitl [Hx]
  · iapply hx $$ Hx
  · iapply hy $$ Hy

/-! ## The launch -/

theorem disjoint_cells : Disjoint (barCells : Finset (GSem nD τ sig)) ownCells := by
  rw [Finset.disjoint_left]
  rintro g h h'
  obtain ⟨c, -, rfl⟩ := Finset.mem_map.mp h
  obtain ⟨co, -, h⟩ := Finset.mem_map.mp h'
  exact osem_ne_bar co.2 (congrArg Prod.snd h)

abbrev ghost : UB := launchOf barCells ownCells allDuties

def u₀ : UU :=
  (initOf (Pipeline.cells (Pipeline.pin (pcfgs (F := F)) adm) cellOf_inj) (Pipeline.launchToks (Pipeline.pin (pcfgs (F := F)) adm) cellOf_inj), ghost)

/-- The protocol's ghost state, kept on device 0 until it is dealt. -/
def parked (c : Dev nD) : sProp 𝕄 := if c = 0 then BI.own (ER ghost) else iprop(emp)

theorem parked_all : bigSep Finset.univ parked = (BI.own (ER ghost) : sProp 𝕄) := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked
  rw [if_pos rfl]
  exact BI.equiv_iff.mp sep_emp

abbrev atStart (c : Dev nD) : sProp 𝕄 := iprop(StableHlo.held (c : Thread nD τ) bufs (V₀ m c) ∗ ready m c)
abbrev atEnd (c : Dev nD) : sProp 𝕄 := iprop(StableHlo.held (c : Thread nD τ) bufs (V₂ m c) ∗ semVal (barCell c) 0)

/-- What device `c` has at launch beside the protocol's ghost state, and of that state its own part. -/
def bundle (c : Dev nD) : sProp 𝕄 :=
  iprop(StableHlo.held (c : Thread nD τ) bufs (V₀ m c)
    ∗ (cred (tallyAt (barCell c) () 2) ∗ ((each fun k => promised c (oGot k)) ∗ each fun k => promised c (oGotFwd k)))
    ∗ owes (c : Thread nD τ) (oweAll c) ∅ ∗ ∃ r, prngReg c r)
def part₀ (c : Dev nD) : sProp 𝕄 :=
  iprop(atPos ER (barCell c) 0 ∅ 0 ∗ (bigSep Finset.univ fun o => openTok ER (cell c o)) ∗ tokens c)

theorem atStart_intro (κ : GSem nD τ sig → ℕ) (c : Dev nD) :
    iprop(invs (partials m) (scales m) κ ∗ (part₀ c ∗ bundle m c)) ⊢ atStart m c := by
  unfold part₀ bundle atStart ready launched dormant owing
  iintro ⟨#HI, ⟨Hat, Ho, Ht⟩, Hh, ⟨Hb, Hc⟩, HO, Hp⟩
  isplitl [Hh]; · iexact Hh
  isplitr [Hp HO]
  · iexists κ
    isplitr; · iexact HI
    isplitl [Hat Hb]; · isplitl [Hat] <;> iassumption
    isplitl [Ho]; · iexact Ho
    isplitl [Ht] <;> iassumption
  isplitl [Hp]; · iexact Hp
  iexists ∅; iexact HO

theorem init :
    iprop((bigSep Finset.univ fun c : Dev nD => iprop(unscopedBufs c (fun b => m ((c : Thread nD τ).loc b)) ∗ unscopedSems0 c
          ∗ owes (c : Thread nD τ) (oweAll c) ∅ ∗ Pipeline.launchCred oweAll c ∗ prngReg c (ρ c) ∗ parked c)) ∗ levAts L lv)
      ⊢ (|={Set.univ}=> bigSep Finset.univ (atStart m) : sProp 𝕄) := by
  have hcore (c : Dev nD) : iprop(unscopedBufs c (fun b => m ((c : Thread nD τ).loc b)) ∗ unscopedSems0 c
        ∗ owes (c : Thread nD τ) (oweAll c) ∅ ∗ Pipeline.launchCred oweAll c ∗ prngReg c (ρ c) ∗ parked c)
      ⊢ (iprop(bundle m c ∗ (semVal (barCell c) 0 ∗ parked c)) : sProp 𝕄) := by
    rw [show unscopedBufs c (fun b => m ((c : Thread nD τ).loc b)) = StableHlo.held (c : Thread nD τ) bufs (V₀ m c) from unscopedBufs_held c (V₀ m c),
      unscopedSems0_eq]
    unfold bundle
    iintro ⟨Hh, Hv, HO, Hcr, Hp, HG⟩
    ihave Hc := (credits (F := F) c) $$ Hcr
    isplitl [Hh Hc HO Hp]
    · isplitl [Hh]; · iexact Hh
      isplitl [Hc]; · iexact Hc
      isplitl [HO]; · iexact HO
      iexists (ρ c); iexact Hp
    isplitl [Hv] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ fun o : Own => openTok ER (cell c o)) :=
    Entails.of_eq (by rw [bigSep_map, bigSep_univ_prod]; rfl)
  refine (sep_mono_left (bigSep_mono fun c _ => hcore c)).trans ?_
  rw [bigSep_sep', bigSep_sep', parked_all]
  iintro ⟨⟨HB, Hv, Hu⟩, -⟩
  imod (Rounds.fund_launch ER (Rd (partials m) (scales m)) disjoint_cells (fun g _ h => h) allDuties) $$ [Hv Hu] with ⟨%κ, -, #Hinv, #Hr, Hat, Hopen, Htok⟩
  · isplitl [Hv]
    · iapply hv $$ Hv
    · iexact Hu
  imodintro
  iapply (bigSep_with_persistent (R := invs (partials m) (scales m) κ) (Φ := fun c => iprop(part₀ c ∗ bundle m c)) fun c _ => atStart_intro m κ c)
  isplitr
  · unfold invs
    isplitr; · iexact Hinv
    iexact Hr
  rw [bigSep_sep']
  isplitr [HB]
  · unfold part₀
    rw [bigSep_sep', bigSep_sep']
    isplitl [Hat]; · iapply hat $$ Hat
    isplitl [Hopen]; · iapply hopen $$ Hopen
    iapply (tokens_around (F := F))
    iapply (Entails.of_eq (allDuties_eq (F := F))) $$ Htok
  · iexact HB

/-! ## The run -/

theorem unscoped_eq : ∀ sm : SemLoc sig, sm.isScoped .tc = false → sm = .reg barS := by decide

set_option backward.isDefEq.respectTransparency.types false in
/-- From any memory with zero counters every weakly fair execution on the four devices ends, and then each device's result
    buffer holds `outcome`, its two arguments are as they were, and every semaphore counter is zero. -/
theorem run_main : θ_run defs (onTc (τ := τ) (main (F := F))) ⟨m, fun _ => 0, ρ⟩
    (fun r => (∀ c : Dev nD, r.2.mem ((c : Thread nD τ).loc main_v2) = outcome m c
        ∧ r.2.mem ((c : Thread nD τ).loc main_arg0) = m ((c : Thread nD τ).loc main_arg0)
        ∧ r.2.mem ((c : Thread nD τ).loc main_arg1) = m ((c : Thread nD τ).loc main_arg1)) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg0 m) rfl c]; rfl)
    (by simp only [segs, Pipeline.Seg.pipes_host, Pipeline.Seg.pipes_region, Pipeline.Seg.pipes_nil]; decide)
    (O₀ := oweAll) (hL := L_of_ne) (G := parked) (u₀ := u₀)
    (hu₀ := by
      unfold u₀
      iintro Hu
      ihave H := (ownU_pair _ _) $$ Hu
      icases H with ⟨HP, HX⟩
      imodintro
      isplitl [HP]; · iexact HP
      rw [parked_all]; iexact HX)
    (T₀ := atStart m) (Tₙ := atEnd m)
    (hch := ⟨fun c => .rfl, fun c => reg0_pre m c, fun c => reg0_post m c⟩)
    (hinit := init m ρ)
    (QY := fun c s => (s.mem ((c : Thread nD τ).loc main_v2) = V₂ m c (Proc.devRef .tc main_v2)
        ∧ s.mem ((c : Thread nD τ).loc main_arg0) = V₂ m c (Proc.devRef .tc main_arg0)
        ∧ s.mem ((c : Thread nD τ).loc main_arg1) = V₂ m c (Proc.devRef .tc main_arg1))
      ∧ s.sem (barCell c) = 0)
    (hfin := fun c s' => by
      dsimp only [atEnd]; rw [held_bufs, held_inner]
      iintro ⟨⟨⟨Hr, H0, H1, -⟩, Hb⟩, HSI⟩
      icombine HSI Hr gives %hr
      icombine HSI H0 gives %h0
      icombine HSI H1 gives %h1
      icombine HSI Hb gives %hb
      imodintro
      isplitr
      · ipureintro
        exact ⟨⟨Buf.eq_of_forall_mem_univ hr, Buf.eq_of_forall_mem_univ h0, Buf.eq_of_forall_mem_univ h1⟩, by simpa using hb⟩
      iexact HSI)
    (hQ := fun s h hs => ⟨fun c => by
        obtain ⟨⟨hr, h0, h1⟩, -⟩ := h c
        rw [V₂_result] at hr
        rw [V₂_other m c _ (by decide)] at h0 h1
        exact ⟨hr, h0.trans (V_main_arg0 m c), h1.trans (V_main_arg1 m c)⟩,
      sem_eq_zero hs fun c sm hsm => by
        obtain rfl := unscoped_eq sm hsm
        exact (h c).2⟩)

end Cert.KernelIdeal.Body

end
-- ==== Proof.Value.lean ====
/- The result at exact arithmetic. Both programs compute, for each row of the sum of the two partial blocks, the row over
   the root of its mean square plus a constant, times the scales: the kernel multiplies by the reciprocal root and the
   reference divides by the root. Read at an index, a device's result is therefore its block of the reference's. -/
module

public import proofs.«01_k».proof.Proof.Run
public import proofs.«01_k».proof.Proof.Gen.ReferenceIdeal.Run
public import Idealize.ShloMosaic.Lib.IdealHost
public import Idealize.ShloMosaic.Lib.ValueLayoutCasts
public import Idealize.ShloMosaic.Lib.StableHlo.Run

@[expose] public section

noncomputable section

namespace Cert.KernelIdeal.Body

open Idealize.ShloMosaic Idealize.ShloMosaic.TcCoe Idealize.SL.Sem
open Idealize.ShloMosaic.ValueIdx
open Cert.KernelIdeal.Gen

/-! ## One row -/

/-- The number of entries of a row, and what is added to their mean square. -/
abbrev width : EReal := Ideal.ofBits .f32 0x44800000#32
abbrev small : EReal := Ideal.ofBits .f32 0x358637BD#32

theorem width_eq : width = ((1024 : ℝ) : EReal) := by
  simp [width, Ideal.ofBits, Ideal.ieee, -EReal.coe_mul]; norm_num

theorem small_pos : 0 < small := by
  simp [small, Ideal.ofBits, Ideal.ieee, -EReal.coe_mul]

/-- The mean square of a row, and that plus the constant. -/
def spread (s : Fin 1024 → EReal) : EReal := Ideal.div (∑ k, s k * s k) width + small

theorem square_nonneg (x : EReal) : 0 ≤ x * x := by
  rcases le_total 0 x with h | h
  · exact mul_nonneg h h
  · rw [← neg_mul_neg]; exact mul_nonneg (EReal.neg_nonneg.mpr h) (EReal.neg_nonneg.mpr h)

theorem spread_pos (s : Fin 1024 → EReal) : 0 < spread s := by
  have hw : width ≠ 0 := by rw [width_eq]; norm_num
  have hw' : 0 ≤ (width)⁻¹ := EReal.inv_nonneg_of_nonneg (by rw [width_eq]; norm_num)
  unfold spread Ideal.div
  rw [if_neg hw]
  exact lt_of_lt_of_le small_pos
    (le_add_of_nonneg_left (mul_nonneg (Finset.sum_nonneg fun k _ => square_nonneg (s k)) hw'))

/-- Above zero, dividing by the root is multiplying by the reciprocal root. -/
theorem div_root (x v : EReal) (hv : 0 < v) : Ideal.div x (Ideal.sqrt v) = x * Ideal.rsqrt v := by
  induction v with
  | bot => exact absurd hv (by simp)
  | top => simp [Ideal.div]
  | coe r =>
    have hr : 0 < r := by exact_mod_cast hv
    have hs : ((Real.sqrt r : ℝ) : EReal) ≠ 0 := by exact_mod_cast (Real.sqrt_pos.mpr hr).ne'
    rw [Ideal.sqrt_coe, Ideal.rsqrt_coe, if_neg hr.not_gt, if_neg hr.not_gt, if_neg hr.ne', Ideal.div, if_neg hs,
      EReal.coe_inv]

/-- Entry `q` of a row after the division and the scaling by `g`. -/
def scaled (s : Fin 1024 → EReal) (g : EReal) (q : Fin 1024) : EReal := s q * Ideal.rsqrt (spread s) * g

/-! ## The kernel -/

/-- What is stored for 64 rows, entry by entry. -/
theorem normed_apply (g : Vec Ideal S1x1024 .f32) (x : Vec Ideal S64x1024 .bf16) (l : Vec Ideal S64x1024 .f32)
    (p : Fin 64) (q : Fin 1024) :
    normed g x l (ix2 p q) = scaled (fun y => l (ix2 p y) + x (ix2 p y)) (g (ix2 (0 : Fin 1) q)) q := by
  have hcol : ∀ v : FVec Ideal S64x1 .f32,
      broadcastTo S64x1024 v broadcasts_S64x1_S64x1024 (ix2 p q) = v (ix2 p (0 : Fin 1)) := fun v =>
    broadcastTo_apply v _ (ix2 p q) (ix2 p (0 : Fin 1)) fun a => by
      match a with
      | ⟨0, _⟩ => rfl
      | ⟨1, _⟩ => rfl
  show k0_pay11 g x l (ix2 p q) = _
  unfold k0_pay11
  simp only [truncf_apply, mulf_apply, addf_apply, extf_apply, hcol, broadcastTo_1b_ab_apply]
  show _ * Ideal.rsqrt (Ideal.div (shapeCast S64x1 _ _ (ix2 p (0 : Fin 1))) width + small) * _ = _
  rw [shapeCast_a_a1_apply]
  unfold scaled spread
  refine congrArg (fun z => (l (ix2 p q) + x (ix2 p q)) * Ideal.rsqrt (Ideal.div z width + small) * g (ix2 (0 : Fin 1) q)) ?_
  refine (Ideal.multiReduction_add_single _ _ reduces_S64x1024_S64 _ _ (ix1 p)).trans (Finset.sum_congr rfl fun k _ => ?_)
  refine congrArg (fun i => (l i + x i) * (l i + x i)) (?_ : _ = ix2 p k)
  funext a
  match a with
  | ⟨0, _⟩ => rfl
  | ⟨1, _⟩ => rfl

/-- The sum of two partial blocks `A`. -/
def total (A : (⟨3, ![2, 2048, 1024]⟩ : Shape).Idx → EReal) (r : Fin 2048) (y : Fin 1024) : EReal :=
  A (ix3 (0 : Fin 2) r y) + A (ix3 (1 : Fin 2) r y)

/-- The block of `A` that device `c` starts with, and the other one. -/
def mine (c : Dev nD) : Fin 2 := ⟨c.val / 2, by have : c.val < 4 := c.isLt; omega⟩
def theirs (c : Dev nD) : Fin 2 := ⟨1 - c.val / 2, by omega⟩

theorem mine_xp (c : Dev nD) : mine (xp c) = theirs c := by revert c; decide
theorem mine_yp (c : Dev nD) : mine (xp (yp c)) = theirs c := by revert c; decide

theorem xp_val (c : Dev nD) : (xp c).val = (c.val + 2) % 4 := by revert c; decide
theorem xp_yp_val (c : Dev nD) : (xp (yp c)).val = 3 - c.val := by revert c; decide

theorem own_add_other (A : (⟨3, ![2, 2048, 1024]⟩ : Shape).Idx → EReal) (c : Dev nD) (r : Fin 2048) (y : Fin 1024) :
    A (ix3 (mine c) r y) + A (ix3 (theirs c) r y) = total A r y := by
  have h : mine c = 0 ∧ theirs c = 1 ∨ mine c = 1 ∧ theirs c = 0 := by revert c; decide
  rcases h with ⟨h, h'⟩ | ⟨h, h'⟩ <;> rw [h, h']
  · rfl
  · exact add_comm _ _

section Block

variable (A : (⟨3, ![2, 2048, 1024]⟩ : Shape).Idx → EReal) (P : Dev nD → Vec Ideal S1x2048x1024 .f32)
  (G : Dev nD → Vec Ideal S1x1024 .f32)
  (hP : ∀ c r y, P c (ix3 (0 : Fin 1) r y) = A (ix3 (mine c) r y)) (c : Dev nD)

include hP in
/-- The rows received by device `c` for half `h` of its result are the other block's. -/
theorem got_apply (h : Fin 2) (r : Fin 512) (y : Fin 1024) : got P c h (ix2 r y)
    = A (ix3 (theirs c) (keptRow c ⟨512 * h.val + r.val, by omega⟩) y) := by
  have e : ∀ d : Dev nD, gotX P d (ix2 r y) = A (ix3 (mine (xp d)) (sentRow (xp d) r) y) := fun d => hP (xp d) _ _
  have hc : c.val < 4 := c.isLt
  unfold got
  split
  next hn =>
    rw [e, mine_xp]
    refine congrArg (fun z => A (ix3 (theirs c) z y)) (Fin.ext ?_)
    have hf : h.val = c.val % 2 := congrArg Fin.val hn
    show (512 * ((xp c).val % 2) + r.val + 1024) - 1024 * ((xp c).val / 2) = 1024 * (c.val / 2) + (512 * h.val + r.val)
    rw [xp_val, hf]; omega
  next hn =>
    have hf : h.val = (c.val + 1) % 2 := by
      have := fun e => hn (Fin.ext e)
      change ¬ h.val = c.val % 2 at this
      omega
    show gotX P (yp c) (ix2 r y) = _
    rw [e, mine_yp]
    refine congrArg (fun z => A (ix3 (theirs c) z y)) (Fin.ext ?_)
    show (512 * ((xp (yp c)).val % 2) + r.val + 1024) - 1024 * ((xp (yp c)).val / 2)
      = 1024 * (c.val / 2) + (512 * h.val + r.val)
    rw [xp_yp_val, hf]; omega

include hP in
/-- Device `c`'s result, entry by entry. -/
theorem result_apply (r q : Fin 1024) : result P G c (ix2 r q)
    = scaled (total A (keptRow c r)) (G c (ix2 (0 : Fin 1) q)) q := by
  show normed (G c) _ _ (ix2 (⟨r.val % 64, _⟩ : Fin 64) q) = _
  rw [normed_apply]
  refine congrArg (fun s => scaled s _ q) (funext fun y => ?_)
  rw [← own_add_other A c]
  have hr : ∀ z : Fin 1024, z.val = r.val → keptRow c z = keptRow c r := fun z h => congrArg (keptRow c) (Fin.ext h)
  refine congrArg₂ (· + ·) ?_ ?_
  · refine (hP c _ _).trans (congrArg (fun z => A (ix3 (mine c) z y)) (hr _ ?_))
    show 512 * (r.val / 512) + 64 * (r.val % 512 / 64) + r.val % 64 = r.val
    omega
  · refine (got_apply A P hP c _ _ _).trans (congrArg (fun z => A (ix3 (theirs c) z y)) (hr _ ?_))
    show 512 * (r.val / 512) + (64 * (r.val % 512 / 64) + r.val % 64) = r.val
    omega

end Block

/-! ## The reference -/

end Cert.KernelIdeal.Body

namespace Cert.ReferenceIdeal.Value

open Idealize.ShloMosaic Idealize.ShloMosaic.TcCoe Idealize.SL.Sem
open Idealize.ShloMosaic.ValueIdx
open Cert.ReferenceIdeal Cert.ReferenceIdeal.Gen
open Cert.KernelIdeal.Body (total scaled spread spread_pos div_root width small)

variable (A : FVec Ideal S2x2048x1024 .f32) (g : FVec Ideal S1024 .f32)

/-- The sum of the partial blocks, its rows' mean squares plus the constant, and the reference's result. -/
abbrev summed : FVec Ideal S2048x1024 .f32 :=
  Host.reduceAdd A (constant S_ .f32 0x00000000#32) reducesTo_S2x2048x1024_S2048x1024_d0 h_S_

abbrev spreads : FVec Ideal S2048x1 .f32 :=
  addf (Host.divf (broadcastInDim S2048x1 ![0] bcast_S2048_S2048x1_0
      (Host.reduceAdd (mulf (summed A) (summed A)) (constant S_ .f32 0x00000000#32) reducesTo_S2048x1024_S2048_d1 h_S_))
    (broadcastInDim S2048x1 ![] bcast_S_S2048x1 (constant S_ .f32 0x44800000#32)))
    (broadcastInDim S2048x1 ![] bcast_S_S2048x1 (constant S_ .f32 0x358637BD#32))

abbrev whole : FVec Ideal S2048x1024 .bf16 :=
  truncf .bf16 (mulf (Host.divf (summed A)
      (broadcastInDim S2048x1024 ![0, 1] bcast_S2048x1_S2048x1024_0_1 (Host.sqrt (spreads A))))
    (broadcastInDim S2048x1024 ![0, 1] bcast_S1x1024_S2048x1024_0_1 (broadcastInDim S1x1024 ![1] bcast_S1024_S1x1024_1 g)))
    bitsLt_bf16_f32

theorem summed_apply (r : Fin 2048) (y : Fin 1024) : summed A (ix2 r y) = total A r y := by
  have hr : S2x2048x1024.Reduces [0] S2048x1024 := by decide
  have hl : ∀ k : Fin 2, hr.lift (ix2 r y) k = ix3 k r y := fun k => by
    funext a
    match a with
    | ⟨0, _⟩ => rfl
    | ⟨1, _⟩ => rfl
    | ⟨2, _⟩ => rfl
  refine (Ideal.hostReduceAdd_single _ hr A _ (ix2 r y)).trans ?_
  refine (congrArg₂ (· + ·) Ideal.ofBits_zero_f32 (Fin.sum_univ_two _)).trans ?_
  rw [zero_add]
  exact congrArg₂ (fun i j => A i + A j) (hl 0) (hl 1)

theorem spreads_apply (r : Fin 2048) : spreads A (ix2 r (0 : Fin 1)) = spread (total A r) := by
  have hr : S2048x1024.Reduces [1] S2048 := by decide
  have hl : ∀ k : Fin 1024, hr.lift (ix1 r) k = ix2 r k := fun k => by
    funext a
    match a with
    | ⟨0, _⟩ => rfl
    | ⟨1, _⟩ => rfl
  have hsum : Host.reduceAdd (mulf (summed A) (summed A)) (constant S_ .f32 0x00000000#32)
      reducesTo_S2048x1024_S2048_d1 h_S_ (ix1 r) = ∑ k, total A r k * total A r k := by
    refine (Ideal.hostReduceAdd_single _ hr _ _ (ix1 r)).trans ?_
    refine (congrArg₂ (· + ·) Ideal.ofBits_zero_f32 (Finset.sum_congr rfl fun k _ => ?_)).trans (zero_add _)
    exact (congrArg (mulf (summed A) (summed A)) (hl k)).trans (congrArg (fun z => z * z) (summed_apply A r k))
  refine congrArg (fun z => Ideal.div z width + small) ((broadcastInDim_apply _ _ _ _ (ix1 r) fun a => ?_).trans hsum)
  match a with
  | ⟨0, _⟩ => rfl

/-- The reference's result, entry by entry. -/
theorem whole_apply (r : Fin 2048) (q : Fin 1024) : whole A g (ix2 r q) = scaled (total A r) (g (ix1 q)) q := by
  have hroot : broadcastInDim S2048x1024 ![0, 1] bcast_S2048x1_S2048x1024_0_1 (Host.sqrt (spreads A)) (ix2 r q)
      = Ideal.sqrt (spread (total A r)) := by
    refine (broadcastInDim_apply _ _ _ _ (ix2 r (0 : Fin 1)) fun a => ?_).trans (congrArg Ideal.sqrt (spreads_apply A r))
    match a with
    | ⟨0, _⟩ => rfl
    | ⟨1, _⟩ => rfl
  have hscale : broadcastInDim S2048x1024 ![0, 1] bcast_S1x1024_S2048x1024_0_1
      (broadcastInDim S1x1024 ![1] bcast_S1024_S1x1024_1 g) (ix2 r q) = g (ix1 q) := by
    refine (broadcastInDim_apply _ _ _ _ (ix2 (0 : Fin 1) q) fun a => ?_).trans
      (broadcastInDim_apply _ _ _ _ (ix1 q) fun a => ?_)
    · match a with
      | ⟨0, _⟩ => rfl
      | ⟨1, _⟩ => rfl
    · match a with
      | ⟨0, _⟩ => rfl
  rw [whole, truncf_apply, mulf_apply, hostDivf_apply, hroot, hscale, summed_apply, div_root _ _ (spread_pos _), scaled]

end Cert.ReferenceIdeal.Value

namespace Cert.KernelIdeal.Body

open Idealize.ShloMosaic Idealize.ShloMosaic.TcCoe Idealize.SL.Sem
open Idealize.ShloMosaic.ValueIdx
open Cert.KernelIdeal.Gen
open Cert.ReferenceIdeal.Value (whole whole_apply)

/-! ## The two results -/

variable (m : (ℓ : Loc nD τ sig) → Buf (Elt Ideal) ℓ)

/-- The kernel finds the scales as one row. -/
theorem scales_apply (c : Dev nD) (q : Fin 1024) :
    scales m c (ix2 (0 : Fin 1) q) = (m ((c : Thread nD τ).loc main_arg1) : FVec Ideal S1024 .f32) (ix1 q) := by
  have e : scales m c = shapeCast S1x1024 (m ((c : Thread nD τ).loc main_arg1) : FVec Ideal S1024 .f32)
      shapeCasts_S1024_S1x1024 := by
    show StableHlo.after hostOps0 _ _ = _
    after_results
    rfl
  rw [e]
  exact shapeCast_a_1a_apply _ _ _ _

theorem block_of (c : Dev nD) : Layout.meshLin [2, 2] c.val [0] = c.val / 2 := by revert c; decide

/-- If every device starts with its block of `A` and with the scales `g`, it ends with its block of the reference's result. -/
theorem outcome_eq (A : FVec Ideal Cert.ReferenceIdeal.S2x2048x1024 .f32) (g : FVec Ideal Cert.ReferenceIdeal.S1024 .f32)
    (h0 : ∀ c : Dev nD, m ((c : Thread nD τ).loc main_arg0)
      = Layout.blockN ⟨3, ![1, 2048, 1024]⟩ ⟨3, ![2, 2048, 1024]⟩ (Layout.meshBlock [2, 2] ![[0], [], []] c) A)
    (h1 : ∀ c : Dev nD, m ((c : Thread nD τ).loc main_arg1) = g) (c : Dev nD) :
    outcome m c = Layout.blockN ⟨2, ![1024, 1024]⟩ ⟨2, ![2048, 1024]⟩ (Layout.meshBlock [2, 2] ![[0], []] c) (whole A g) := by
  have hP : ∀ (c : Dev nD) r y, partials m c (ix3 (0 : Fin 1) r y) = A (ix3 (mine c) r y) := fun c r y => by
    refine (congrFun ((V_main_arg0 m c).trans (h0 c)) _).trans (congrArg A (funext fun a => Fin.ext ?_))
    match a with
    | ⟨0, _⟩ => show Layout.meshLin [2, 2] c.val [0] * 1 + 0 = c.val / 2; rw [block_of]; omega
    | ⟨1, _⟩ => exact (congrArg (· + _) (Nat.zero_mul _)).trans (Nat.zero_add _)
    | ⟨2, _⟩ => exact (congrArg (· + _) (Nat.zero_mul _)).trans (Nat.zero_add _)
  funext i
  obtain ⟨r, q, rfl⟩ : ∃ r q, i = ix2 r q := ⟨i 0, i 1, eq_ix2 i⟩
  rw [outcome, result_apply A _ _ hP, scales_apply, h1, ← whole_apply A g]
  refine congrArg (whole A g) (funext fun a => Fin.ext ?_)
  match a with
  | ⟨0, _⟩ => show 1024 * (c.val / 2) + r.val = Layout.meshLin [2, 2] c.val [0] * 1024 + r.val; rw [block_of]; omega
  | ⟨1, _⟩ => exact ((congrArg (· + _) (Nat.zero_mul _)).trans (Nat.zero_add _)).symm

end Cert.KernelIdeal.Body

end
-- ==== Proof.lean ====
/- The claims: the kernel, the kernel at exact arithmetic and the reference each end with their arguments unchanged and every
   semaphore counter at zero, and at exact arithmetic the devices end with their blocks of the reference's result. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The two printed kernels are one text: their calls run the same bodies. -/
theorem same_bodies {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem same_defs {F : FTy → Type} [FloatOps F] : Cert.Kernel.defs (F := F) = Cert.KernelIdeal.defs (F := F) :=
  congrArg (Pipeline.defs Cert.KernelIdeal.pcfgs) same_bodies

/-- The kernel ends with its arguments unchanged and every semaphore counter at zero, at the machine's own floats … -/
theorem frame_kernel : Cert.quiescent_Kernel := fun m ρ _ => by
  rw [same_defs]
  exact (θ_run Cert.KernelIdeal.defs _ _).mono (fun _ h => ⟨fun c => (h.1 c).2, h.2⟩)
    (Cert.KernelIdeal.Body.run_main (F := Bits) m ρ)

/-- … and at exact arithmetic; -/
theorem frame_ideal : Cert.quiescent_KernelIdeal := fun m ρ _ =>
  (θ_run Cert.KernelIdeal.defs _ _).mono (fun _ h => ⟨fun c => (h.1 c).2, h.2⟩)
    (Cert.KernelIdeal.Body.run_main (F := Ideal) m ρ)

/-- so does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- At exact arithmetic the devices end with the reference's result, each with its block. -/
theorem values : Cert.algebraic_KernelIdeal_ReferenceIdeal := fun m ρ m' ρ' _ hm =>
  ⟨_, (θ_run Cert.KernelIdeal.defs _ _).mono
      (fun _ h c => ⟨(h.1 c).1.trans
        (Cert.KernelIdeal.Body.outcome_eq m _ _ (fun c => (hm c).1) (fun c => (hm c).2) c), (h.1 c).2⟩)
      (Cert.KernelIdeal.Body.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, values⟩

end Cert.Proof

end
